-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "l_eps" .f32 0x386AE18B#32 ((61572651 / 1099511627776 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x56x56 : Shape := ⟨4, ![32, 512, 56, 56]⟩
abbrev S32x56x56x512 : Shape := ⟨4, ![32, 56, 56, 512]⟩
abbrev S1x1 : Shape := ⟨2, ![1, 1]⟩
abbrev S2x56x56x512 : Shape := ⟨4, ![2, 56, 56, 512]⟩
abbrev S56x128 : Shape := ⟨2, ![56, 128]⟩
abbrev S32x4x56 : Shape := ⟨3, ![32, 4, 56]⟩
abbrev S1x1x56x512 : Shape := ⟨4, ![1, 1, 56, 512]⟩
abbrev S56x512 : Shape := ⟨2, ![56, 512]⟩
abbrev S128 : Shape := ⟨1, ![128]⟩
abbrev S1x128 : Shape := ⟨2, ![1, 128]⟩
abbrev S56 : Shape := ⟨1, ![56]⟩
abbrev S56x1 : Shape := ⟨2, ![56, 1]⟩
abbrev S1x56 : Shape := ⟨2, ![1, 56]⟩
abbrev S4x56 : Shape := ⟨2, ![4, 56]⟩
abbrev S1x4x56 : Shape := ⟨3, ![1, 4, 56]⟩
abbrev S32x1x56 : Shape := ⟨3, ![32, 1, 56]⟩
abbrev S32x56 : Shape := ⟨2, ![32, 56]⟩
abbrev S56x56 : Shape := ⟨2, ![56, 56]⟩
abbrev S1x32 : Shape := ⟨2, ![1, 32]⟩
abbrev S1 : Shape := ⟨1, ![1]⟩
abbrev S_ : Shape := ⟨0, ![]⟩

abbrev nBuf : Space → Nat
  | .hbm => 4
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x56x56x512, .f32⟩
  | .hbm, ⟨2, _⟩ => ⟨S1x1, .f32⟩
  | .hbm, ⟨3, _⟩ => ⟨S_, .f32⟩
  | .local _ .vmem, ⟨0, _⟩ => ⟨S2x56x56x512, .f32⟩
  | .local _ .vmem, ⟨1, _⟩ => ⟨S2x56x56x512, .f32⟩
  | .local _ .vmem, ⟨2, _⟩ => ⟨S1x1, .f32⟩
  | .local _ .vmem, ⟨3, _⟩ => ⟨S56x128, .f32⟩
  | .local _ .vmem, ⟨4, _⟩ => ⟨S56x128, .f32⟩
  | .local _ .vmem, ⟨5, _⟩ => ⟨S56x128, .f32⟩
  | .local _ .vmem, ⟨6, _⟩ => ⟨S56x128, .f32⟩
  | .local _ .vmem, ⟨7, _⟩ => ⟨S32x4x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 3 → Nat :=
  let arg0 : BitVec 32 := BitVec.ofNat 32 (i 0).val
  let c2_i32 : BitVec 32 := 2#32
  let v2085 : BitVec 32 := Scalar.muli arg0 c2_i32
  let v2086 : BitVec 32 := Scalar.addi v2085 c0_i32
  let v2087 : Index := Scalar.indexCast v2086
  let c0_959 : Index := 0#32
  let c0_960 : Index := 0#32
  ![v2087.toNat, 0, 0]
def k0_cond1 (i : grid0.Coords) : BitVec 1 :=
  let arg0 : BitVec 32 := BitVec.ofNat 32 (i 0).val
  let c15_i32 : BitVec 32 := 15#32
  let v4182 : BitVec 1 := Scalar.cmpi .eq arg0 c15_i32
  let v4183 : BitVec 32 := Scalar.extui v4182
  let c0_i32_1980 : BitVec 32 := 0#32
  let v4184 : BitVec 1 := Scalar.cmpi .ne v4183 c0_i32_1980
  v4184

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x56x56x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "l_eps" => some ((61572651 / 1099511627776 : ℝ) : EReal)
  | _ => none
-- ==== ReferenceIdeal.lean ====
abbrev S32x512x56x56 : Shape := ⟨4, ![32, 512, 56, 56]⟩
abbrev S_ : Shape := ⟨0, ![]⟩
abbrev S32x56 : Shape := ⟨2, ![32, 56]⟩
abbrev S56 : Shape := ⟨1, ![56]⟩
abbrev S1x56 : Shape := ⟨2, ![1, 56]⟩
abbrev S32 : Shape := ⟨1, ![32]⟩

abbrev nBuf : Space → Nat
  | .hbm => 160
  | .vmem => 0
  | .smem => 0
  | _ => 0

abbrev hbmTy0_0 (i : Nat) : BufTy := match i % 128 with
  | 0 => ⟨S32x512x56x56, .f32⟩
  | 1 => ⟨S32x512x56x56, .f32⟩
  | 2 => ⟨S_, .f32⟩
  | 3 => ⟨S32x56, .f32⟩
  | 4 => ⟨S_, .f32⟩
  | 5 => ⟨S32x56, .f32⟩
  | 6 => ⟨S32x56, .f32⟩
  | 7 => ⟨S_, .f32⟩
  | 8 => ⟨S_, .f32⟩
  | 9 => ⟨S32x56, .f32⟩
  | 10 => ⟨S32x56, .f32⟩
  | 11 => ⟨S32x56, .f32⟩
  | 12 => ⟨S_, .f32⟩
  | 13 => ⟨S_, .f32⟩
  | 14 => ⟨S32x56, .f32⟩
  | 15 => ⟨S32x56, .f32⟩
  | 16 => ⟨S56, .i32⟩
  | 17 => ⟨S_, .i32⟩
  | 18 => ⟨S56, .i32⟩
  | 19 => ⟨S56, .i32⟩
  | 20 => ⟨S_, .i32⟩
  | 21 => ⟨S56, .i32⟩
  | 22 => ⟨S56, .i32⟩
  | 23 => ⟨S56, .f32⟩
  | 24 => ⟨S_, .f32⟩
  | 25 => ⟨S_, .f32⟩
  | 26 => ⟨S32x56, .f32⟩
  | 27 => ⟨S_, .f32⟩
  | 28 => ⟨S_, .f32⟩
  | 29 => ⟨S32x56, .f32⟩
  | 30 => ⟨S56, .i32⟩
  | 31 => ⟨S_, .i32⟩
  | 32 => ⟨S56, .i32⟩
  | 33 => ⟨S56, .i32⟩
  | 34 => ⟨S_, .i32⟩
  | 35 => ⟨S56, .i32⟩
  | 36 => ⟨S56, .i32⟩
  | 37 => ⟨S56, .f32⟩
  | 38 => ⟨S_, .f32⟩
  | 39 => ⟨S32x56, .f32⟩
  | 40 => ⟨S32x56, .f32⟩
  | 41 => ⟨S32x56, .f32⟩
  | 42 => ⟨S_, .f32⟩
  | 43 => ⟨S56, .f32⟩
  | 44 => ⟨S56, .f32⟩
  | 45 => ⟨S1x56, .f32⟩
  | 46 => ⟨S32x56, .f32⟩
  | 47 => ⟨S32x56, .f32⟩
  | 48 => ⟨S32x56, .f32⟩
  | 49 => ⟨S_, .f32⟩
  | 50 => ⟨S32x56, .f32⟩
  | 51 => ⟨S32x56, .f32⟩
  | 52 => ⟨S32x56, .f32⟩
  | 53 => ⟨S_, .f32⟩
  | 54 => ⟨S56, .f32⟩
  | 55 => ⟨S56, .f32⟩
  | 56 => ⟨S1x56, .f32⟩
  | 57 => ⟨S32x56, .f32⟩
  | 58 => ⟨S32x56, .f32⟩
  | 59 => ⟨S32x56, .f32⟩
  | 60 => ⟨S_, .f32⟩
  | 61 => ⟨S32x56, .f32⟩
  | 62 => ⟨S32x56, .f32⟩
  | 63 => ⟨S_, .f32⟩
  | 64 => ⟨S32, .f32⟩
  | 65 => ⟨S_, .f32⟩
  | 66 => ⟨S_, .f32⟩
  | 67 => ⟨S_, .f32⟩
  | 68 => ⟨S_, .f32⟩
  | 69 => ⟨S_, .f32⟩
  | 70 => ⟨S32x56, .f32⟩
  | 71 => ⟨S32x56, .f32⟩
  | 72 => ⟨S_, .f32⟩
  | 73 => ⟨S32, .f32⟩
  | 74 => ⟨S_, .f32⟩
  | 75 => ⟨S_, .f32⟩
  | 76 => ⟨S_, .f32⟩
  | 77 => ⟨S_, .f32⟩
  | 78 => ⟨S32x512x56x56, .f32⟩
  | 79 => ⟨S_, .f32⟩
  | 80 => ⟨S32x56, .f32⟩
  | 81 => ⟨S_, .f32⟩
  | 82 => ⟨S32x56, .f32⟩
  | 83 => ⟨S32x56, .f32⟩
  | 84 => ⟨S_, .f32⟩
  | 85 => ⟨S_, .f32⟩
  | 86 => ⟨S32x56, .f32⟩
  | 87 => ⟨S32x56, .f32⟩
  | 88 => ⟨S32x56, .f32⟩
  | 89 => ⟨S_, .f32⟩
  | 90 => ⟨S_, .f32⟩
  | 91 => ⟨S32x56, .f32⟩
  | 92 => ⟨S32x56, .f32⟩
  | 93 => ⟨S56, .i32⟩
  | 94 => ⟨S_, .i32⟩
  | 95 => ⟨S56, .i32⟩
  | 96 => ⟨S56, .i32⟩
  | 97 => ⟨S_, .i32⟩
  | 98 => ⟨S56, .i32⟩
  | 99 => ⟨S56, .i32⟩
  | 100 => ⟨S56, .f32⟩
  | 101 => ⟨S_, .f32⟩
  | 102 => ⟨S_, .f32⟩
  | 103 => ⟨S32x56, .f32⟩
  | 104 => ⟨S_, .f32⟩
  | 105 => ⟨S_, .f32⟩
  | 106 => ⟨S32x56, .f32⟩
  | 107 => ⟨S56, .i32⟩
  | 108 => ⟨S_, .i32⟩
  | 109 => ⟨S56, .i32⟩
  | 110 => ⟨S56, .i32⟩
  | 111 => ⟨S_, .i32⟩
  | 112 => ⟨S56, .i32⟩
  | 113 => ⟨S56, .i32⟩
  | 114 => ⟨S56, .f32⟩
  | 115 => ⟨S_, .f32⟩
  | 116 => ⟨S32x56, .f32⟩
  | 117 => ⟨S32x56, .f32⟩
  | 118 => ⟨S32x56, .f32⟩
  | 119 => ⟨S_, .f32⟩
  | 120 => ⟨S56, .f32⟩
  | 121 => ⟨S56, .f32⟩
  | 122 => ⟨S1x56, .f32⟩
  | 123 => ⟨S32x56, .f32⟩
  | 124 => ⟨S32x56, .f32⟩
  | 125 => ⟨S32x56, .f32⟩
  | 126 => ⟨S_, .f32⟩
  | 127 => ⟨S32x56, .f32⟩
  | _ => ⟨S32x512x56x56, .f32⟩

abbrev hbmTy0_1 (i : Nat) : BufTy := match i % 128 with
  | 0 => ⟨S32x56, .f32⟩
  | 1 => ⟨S32x56, .f32⟩
  | 2 => ⟨S_, .f32⟩
  | 3 => ⟨S56, .f32⟩
  | 4 => ⟨S56, .f32⟩
  | 5 => ⟨S1x56, .f32⟩
  | 6 => ⟨S32x56, .f32⟩
  | 7 => ⟨S32x56, .f32⟩
  | 8 => ⟨S32x56, .f32⟩
  | 9 => ⟨S_, .f32⟩
  | 10 => ⟨S32x56, .f32⟩
  | 11 => ⟨S32x56, .f32⟩
  | 12 => ⟨S_, .f32⟩
  | 13 => ⟨S32, .f32⟩
  | 14 => ⟨S_, .f32⟩
  | 15 => ⟨S_, .f32⟩
  | 16 => ⟨S_, .f32⟩
  | 17 => ⟨S_, .f32⟩
  | 18 => ⟨S_, .f32⟩
  | 19 => ⟨S32x56, .f32⟩
  | 20 => ⟨S32x56, .f32⟩
  | 21 => ⟨S_, .f32⟩
  | 22 => ⟨S32, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S32x512x56x56, .f32⟩

abbrev hbmTy (i : Nat) : BufTy := match i / 128 with
  | 0 => hbmTy0_0 i
  | 1 => hbmTy0_1 i
  | _ => ⟨S32x512x56x56, .f32⟩

abbrev bufTy : (tb : Table) → Fin (tcTables nBuf tb) → BufTy
  | .hbm, ⟨i, _⟩ => hbmTy i
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_call0_cst : Ref sig .tc := ⟨.hbm, 12, rfl⟩
abbrev main_call1_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call2_call0_cst : Ref sig .tc := ⟨.hbm, 24, rfl⟩
abbrev main_call2_call0_v0 : Ref sig .tc := ⟨.hbm, 25, rfl⟩
abbrev main_v15 : Ref sig .tc := ⟨.hbm, 26, rfl⟩
abbrev main_call3_call0_cst : Ref sig .tc := ⟨.hbm, 27, rfl⟩
abbrev main_call3_call0_v0 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_call4_call0_cst : Ref sig .tc := ⟨.hbm, 84, rfl⟩
abbrev main_call4_call0_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call5_call0_cst : Ref sig .tc := ⟨.hbm, 89, rfl⟩
abbrev main_call5_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_18 : Ref sig .tc := ⟨.hbm, 94, rfl⟩
abbrev main_v61 : Ref sig .tc := ⟨.hbm, 95, rfl⟩
abbrev main_v62 : Ref sig .tc := ⟨.hbm, 96, rfl⟩
abbrev main_c_19 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call6_call0_cst : Ref sig .tc := ⟨.hbm, 101, rfl⟩
abbrev main_call6_call0_v0 : Ref sig .tc := ⟨.hbm, 102, rfl⟩
abbrev main_v66 : Ref sig .tc := ⟨.hbm, 103, rfl⟩
abbrev main_call7_call0_cst : Ref sig .tc := ⟨.hbm, 104, rfl⟩
abbrev main_call7_call0_v0 : Ref sig .tc := ⟨.hbm, 105, rfl⟩
abbrev main_v67 : Ref sig .tc := ⟨.hbm, 106, rfl⟩
abbrev main_v68 : Ref sig .tc := ⟨.hbm, 107, rfl⟩
abbrev main_c_20 : Ref sig .tc := ⟨.hbm, 108, rfl⟩
abbrev main_v69 : Ref sig .tc := ⟨.hbm, 109, rfl⟩
abbrev main_v70 : Ref sig .tc := ⟨.hbm, 110, rfl⟩
abbrev main_c_21 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_22 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_23 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_24 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_25 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_26 : Ref sig .tc := ⟨.hbm, 137, rfl⟩
abbrev main_v92 : Ref sig .tc := ⟨.hbm, 138, rfl⟩
abbrev main_v93 : Ref sig .tc := ⟨.hbm, 139, rfl⟩
abbrev main_cst_27 : Ref sig .tc := ⟨.hbm, 140, rfl⟩
abbrev main_v94 : Ref sig .tc := ⟨.hbm, 141, rfl⟩
abbrev main_cst_28 : Ref sig .tc := ⟨.hbm, 142, rfl⟩
abbrev main_v95 : Ref sig .tc := ⟨.hbm, 143, rfl⟩
abbrev main_cst_29 : Ref sig .tc := ⟨.hbm, 144, rfl⟩
abbrev main_v96 : Ref sig .tc := ⟨.hbm, 145, rfl⟩
abbrev main_cst_30 : Ref sig .tc := ⟨.hbm, 146, rfl⟩
abbrev main_v97 : Ref sig .tc := ⟨.hbm, 147, rfl⟩
abbrev main_v98 : Ref sig .tc := ⟨.hbm, 148, rfl⟩
abbrev main_cst_31 : Ref sig .tc := ⟨.hbm, 149, rfl⟩
abbrev main_v99 : Ref sig .tc := ⟨.hbm, 150, rfl⟩
abbrev main_cst_32 : Ref sig .tc := ⟨.hbm, 151, rfl⟩
abbrev main_v100 : Ref sig .tc := ⟨.hbm, 152, rfl⟩
abbrev main_cst_33 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_34 : Ref sig .tc := ⟨.hbm, 158, rfl⟩
abbrev main_v105 : Ref sig .tc := ⟨.hbm, 159, rfl⟩

abbrev nD : Nat := 1
abbrev τ : Topo := Topo.v7x

variable {F : FTy → Type} [FloatOps F]
-- ==== Proof.Body.Step.lean ====
/-
  One step of the kernel's body: what it loads and stores for one row of one batch element of the block.
-/
module

public import proofs.«01_k».proof.Proof.Gen.KernelIdeal.Frame
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A loaded row of the block as a matrix of 56 places by 512 channels. -/
def mat (v : Vec F S1x1x56x512 .f32) : FVec F S56x512 .f32 := shapeCast S56x512 v shapeCasts_S1x1x56x512_S56x512

/-- The sum of a matrix's four slices of 128 channels. -/
def fold4 (v : FVec F S56x512 .f32) : FVec F S56x128 .f32 :=
  addf (addf (addf (extractStridedSlice S56x128 ![0, 0] v slices_S56x512_o0_0_S56x128)
    (extractStridedSlice S56x128 ![0, 128] v slices_S56x512_o0_128_S56x128))
    (extractStridedSlice S56x128 ![0, 256] v slices_S56x512_o0_256_S56x128))
    (extractStridedSlice S56x128 ![0, 384] v slices_S56x512_o0_384_S56x128)

/-- The folded row and the folded squares of the row. -/
def fs (v : Vec F S1x1x56x512 .f32) : FVec F S56x128 .f32 := fold4 (mat v)
def fq (v : Vec F S1x1x56x512 .f32) : FVec F S56x128 .f32 := fold4 (mulf (mat v) (mat v))

/-- What an accumulator is stored, and a row of the row sums. -/
def same (v : FVec F S56x128 .f32) : FVec F S56x128 .f32 := shapeCast S56x128 v shapeCasts_S56x128_S56x128
def rowSum (v : FVec F S56x128 .f32) : FVec F S1x128 .f32 :=
  shapeCast S1x128 (shapeCast S1x128 (multiReduction .add [0] S128 v 0x00000000#32 reduces_S56x128_S128 (.inl rfl) rfl) shapeCasts_S128_S1x128) shapeCasts_S1x128_S1x128

theorem inbSlab {ts hi : ℕ} (h : ts < 2) (h' : hi < 56) : ∀ a, (![ts, hi, 0, 0] : Fin 4 → Nat) a + S1x1x56x512.size a ≤ S2x56x56x512.size a := by
  intro a; fin_cases a
  · show ts + 1 ≤ 2; omega
  · show hi + 1 ≤ 56; omega
  · show 0 + 56 ≤ 56; omega
  · show 0 + 512 ≤ 512; omega
theorem inbRow {hi : ℕ} (h' : hi < 56) : ∀ a, (![hi, 0] : Fin 2 → Nat) a + S1x128.size a ≤ S56x128.size a := by
  intro a; fin_cases a
  · show hi + 1 ≤ 56; omega
  · show 0 + 128 ≤ 128; omega

section
variable (arg1 : Memref sig .tc .vmem S2x56x56x512 .f32) (arg3 arg4 arg5 arg6 : Memref sig .tc .vmem S56x128 .f32)

/-- The four loads and stores of a row's sums, continued by `k`. -/
def rows (hi : ℕ) (hhi : hi < 56) (v : Vec F S1x1x56x512 .f32) {α : Type} (k : Prog (TpuEff nD τ sig (Elt F) Λ₀ .tc) α) : Prog (TpuEff nD τ sig (Elt F) Λ₀ .tc) α :=
  Prog.op (.load arg5 (Rect.unit (s := S56x128) ![hi, 0] S1x128.size (inbRow hhi)).toLoadRect (View.loadsAt_vmem h_S1x128)) fun (_ : Vec F S1x128 .f32) =>
  Prog.op (.store arg5 (Rect.unit (s := S56x128) ![hi, 0] S1x128.size (inbRow hhi)) (rowSum (fs v)) Finset.univ (View.stores_vmem_bits_univ h_S1x128 rfl) (.inl rfl)) fun _ =>
  Prog.op (.load arg6 (Rect.unit (s := S56x128) ![hi, 0] S1x128.size (inbRow hhi)).toLoadRect (View.loadsAt_vmem h_S1x128)) fun (_ : Vec F S1x128 .f32) =>
  Prog.op (.store arg6 (Rect.unit (s := S56x128) ![hi, 0] S1x128.size (inbRow hhi)) (rowSum (fq v)) Finset.univ (View.stores_vmem_bits_univ h_S1x128 rfl) (.inl rfl)) fun _ => k

/-- The step at a row after the first. -/
def step (ts hi : ℕ) (hts : ts < 2) (hhi : hi < 56) {α : Type} (k : Prog (TpuEff nD τ sig (Elt F) Λ₀ .tc) α) : Prog (TpuEff nD τ sig (Elt F) Λ₀ .tc) α :=
  Prog.op (.load arg1 (Rect.unit (s := S2x56x56x512) ![ts, hi, 0, 0] S1x1x56x512.size (inbSlab hts hhi)).toLoadRect (View.loadsAt_vmem h_S1x1x56x512)) fun (v : Vec F S1x1x56x512 .f32) =>
  Prog.op (.load arg3 (Rect.unit (s := S56x128) ![0, 0] S56x128.size inb_S56x128_S56x128_0_0).toLoadRect (View.loadsAt_vmem h_S56x128)) fun (a : Vec F S56x128 .f32) =>
  Prog.op (.load arg3 (Rect.unit (s := S56x128) ![0, 0] S56x128.size inb_S56x128_S56x128_0_0).toLoadRect (View.loadsAt_vmem h_S56x128)) fun (_ : Vec F S56x128 .f32) =>
  Prog.op (.store arg3 (Rect.unit (s := S56x128) ![0, 0] S56x128.size inb_S56x128_S56x128_0_0) (same (addf a (fs v))) Finset.univ (View.stores_vmem_bits_univ h_S56x128 rfl) (.inl rfl)) fun _ =>
  Prog.op (.load arg4 (Rect.unit (s := S56x128) ![0, 0] S56x128.size inb_S56x128_S56x128_0_0).toLoadRect (View.loadsAt_vmem h_S56x128)) fun (b : Vec F S56x128 .f32) =>
  Prog.op (.load arg4 (Rect.unit (s := S56x128) ![0, 0] S56x128.size inb_S56x128_S56x128_0_0).toLoadRect (View.loadsAt_vmem h_S56x128)) fun (_ : Vec F S56x128 .f32) =>
  Prog.op (.store arg4 (Rect.unit (s := S56x128) ![0, 0] S56x128.size inb_S56x128_S56x128_0_0) (same (addf b (fq v))) Finset.univ (View.stores_vmem_bits_univ h_S56x128 rfl) (.inl rfl)) fun _ =>
  rows arg5 arg6 hi hhi v k

/-- The step at the first row, which overwrites the accumulators. -/
def step0 (ts : ℕ) (hts : ts < 2) {α : Type} (k : Prog (TpuEff nD τ sig (Elt F) Λ₀ .tc) α) : Prog (TpuEff nD τ sig (Elt F) Λ₀ .tc) α :=
  Prog.op (.load arg1 (Rect.unit (s := S2x56x56x512) ![ts, 0, 0, 0] S1x1x56x512.size (inbSlab hts (by decide))).toLoadRect (View.loadsAt_vmem h_S1x1x56x512)) fun (v : Vec F S1x1x56x512 .f32) =>
  Prog.op (.load arg3 (Rect.unit (s := S56x128) ![0, 0] S56x128.size inb_S56x128_S56x128_0_0).toLoadRect (View.loadsAt_vmem h_S56x128)) fun (_ : Vec F S56x128 .f32) =>
  Prog.op (.store arg3 (Rect.unit (s := S56x128) ![0, 0] S56x128.size inb_S56x128_S56x128_0_0) (same (fs v)) Finset.univ (View.stores_vmem_bits_univ h_S56x128 rfl) (.inl rfl)) fun _ =>
  Prog.op (.load arg4 (Rect.unit (s := S56x128) ![0, 0] S56x128.size inb_S56x128_S56x128_0_0).toLoadRect (View.loadsAt_vmem h_S56x128)) fun (_ : Vec F S56x128 .f32) =>
  Prog.op (.store arg4 (Rect.unit (s := S56x128) ![0, 0] S56x128.size inb_S56x128_S56x128_0_0) (same (fq v)) Finset.univ (View.stores_vmem_bits_univ h_S56x128 rfl) (.inl rfl)) fun _ =>
  rows arg5 arg6 0 (by decide) v k

/-- The steps at `n` rows from row `hi` on. -/
def steps (ts : ℕ) (hts : ts < 2) {α : Type} (k : Prog (TpuEff nD τ sig (Elt F) Λ₀ .tc) α) : (n hi : ℕ) → hi + n ≤ 56 → Prog (TpuEff nD τ sig (Elt F) Λ₀ .tc) α
  | 0, _, _ => k
  | n + 1, hi, h => step arg1 arg3 arg4 arg5 arg6 ts hi hts (by omega) (steps ts hts k n (hi + 1) (by omega))

/-- The sums of a matrix's rows as one row. -/
def laneSum (v : FVec F S56x128 .f32) : FVec F S1x56 .f32 :=
  transpose S1x56 [1, 0] (shapeCast S56x1 (multiReduction .add [1] S56 v 0x00000000#32 reduces_S56x128_S56 (.inl rfl) rfl) shapeCasts_S56_S56x1)
    transposes_S56x1_p1_0_S1x56

/-- What is stored of a batch element: the sums of the rows of four arrays. -/
def stat (a5 a6 a3 a4 : FVec F S56x128 .f32) : FVec F S1x4x56 .f32 :=
  shapeCast S1x4x56 (concatenate S4x56 0 [⟨S1x56, laneSum a5⟩, ⟨S1x56, laneSum a6⟩, ⟨S1x56, laneSum a3⟩, ⟨S1x56, laneSum a4⟩]
    concatenates_S1x56_S1x56_S1x56_S1x56_S4x56_d0) shapeCasts_S4x56_S1x4x56

variable (arg2 : Memref sig .tc .vmem S1x1 .f32) (arg7 : Memref sig .tc .vmem S32x4x56 .f32)

/-- The end of a batch element: its four rows of sums stored at its place. -/
def stats (i : grid0.Coords) (r : Fin 2) {α : Type} (k : Prog (TpuEff nD τ sig (Elt F) Λ₀ .tc) α) : Prog (TpuEff nD τ sig (Elt F) Λ₀ .tc) α :=
  Prog.op (.load arg5 (Rect.unit (s := S56x128) ![0, 0] S56x128.size inb_S56x128_S56x128_0_0).toLoadRect (View.loadsAt_vmem h_S56x128)) fun (a5 : Vec F S56x128 .f32) =>
  Prog.op (.load arg6 (Rect.unit (s := S56x128) ![0, 0] S56x128.size inb_S56x128_S56x128_0_0).toLoadRect (View.loadsAt_vmem h_S56x128)) fun (a6 : Vec F S56x128 .f32) =>
  Prog.op (.load arg3 (Rect.unit (s := S56x128) ![0, 0] S56x128.size inb_S56x128_S56x128_0_0).toLoadRect (View.loadsAt_vmem h_S56x128)) fun (a3 : Vec F S56x128 .f32) =>
  Prog.op (.load arg4 (Rect.unit (s := S56x128) ![0, 0] S56x128.size inb_S56x128_S56x128_0_0).toLoadRect (View.loadsAt_vmem h_S56x128)) fun (a4 : Vec F S56x128 .f32) =>
  Prog.op (.load arg7 (Rect.unit (s := S32x4x56) (k0_off1 i (BitVec.ofNat 32 r.val)) S1x4x56.size (k0_off1_inb i r)).toLoadRect (View.loadsAt_vmem h_S1x4x56)) fun (_ : Vec F S1x4x56 .f32) =>
  Prog.op (.store arg7 (Rect.unit (s := S32x4x56) (k0_off1 i (BitVec.ofNat 32 r.val)) S1x4x56.size (k0_off1_inb i r)) (stat a5 a6 a3 a4) Finset.univ (View.stores_vmem_bits_univ h_S1x4x56 rfl) (.inl rfl)) fun _ => k

/-- One batch element of the block. -/
def element (i : grid0.Coords) (r : Fin 2) {α : Type} (k : Prog (TpuEff nD τ sig (Elt F) Λ₀ .tc) α) : Prog (TpuEff nD τ sig (Elt F) Λ₀ .tc) α :=
  step0 arg1 arg3 arg4 arg5 arg6 r.val r.isLt (steps arg1 arg3 arg4 arg5 arg6 r.val r.isLt (stats arg3 arg4 arg5 arg6 arg7 i r k) 55 1 (by decide))

/-- The masks of a triangle: 1 at the places of the row not before, and not after, the column. -/
def sufMask : FVec F S56x56 .f32 := sitofp .f32 (extui 32 (cmpi .sge (iota .tc S56x56 32 [0] iota_S56x56_d0_w32) (iota .tc S56x56 32 [1] iota_S56x56_d1_w32)) natLt_1_32)
def preMask : FVec F S56x56 .f32 := sitofp .f32 (extui 32 (cmpi .sle (iota .tc S56x56 32 [0] iota_S56x56_d0_w32) (iota .tc S56x56 32 [1] iota_S56x56_d1_w32)) natLt_1_32)
def place : FVec F S1x56 .f32 := sitofp .f32 (iota .tc S1x56 32 [1] iota_S1x56_d1_w32)

/-- The numbers of elements from each place on, and up to each place. -/
def sufCount : FVec F S1x56 .f32 := mulf (subf (broadcast S1x56 (Scalar.ofBits .f32 0x42600000#32)) place) (broadcast S1x56 (Scalar.ofBits .f32 0x46E00000#32))
def preCount : FVec F S1x56 .f32 := mulf (addf place (broadcast S1x56 (Scalar.ofBits .f32 0x3F800000#32))) (broadcast S1x56 (Scalar.ofBits .f32 0x46E00000#32))

/-- The norms that a mask sums: the root of the masked sums of squares, of 2·10⁻⁶ times the masked sums, and of 10⁻¹² times the count. -/
def norms (sq lin : FVec F S32x56 .f32) (mask : FVec F S56x56 .f32) (count : FVec F S1x56 .f32) : FVec F S32x56 .f32 :=
  sqrt (addf (addf (matmul dot_S32x56_S56x56_S32x56_1_0_0_1_n_n (some .fp32) sq mask (constant S32x56 .f32 0x00000000#32))
      (mulf (broadcast S32x56 (Scalar.ofBits .f32 0x360637BD#32)) (matmul dot_S32x56_S56x56_S32x56_1_0_0_1_n_n (some .fp32) lin mask (constant S32x56 .f32 0x00000000#32))))
    (broadcastTo S32x56 (mulf (broadcast S1x56 (Scalar.ofBits .f32 0x2B8CBCCC#32)) count) broadcasts_S1x56_S32x56))

/-- Both directions' norms along one axis. -/
def branch (sq lin : FVec F S32x56 .f32) : FVec F S32x56 .f32 := addf (norms sq lin sufMask sufCount) (norms sq lin preMask preCount)

/-- The four rows of sums of all batch elements. -/
def linH (s : FVec F S32x4x56 .f32) : FVec F S32x56 .f32 := shapeCast S32x56 (extractStridedSlice S32x1x56 ![0, 0, 0] s slices_S32x4x56_o0_0_0_S32x1x56) shapeCasts_S32x1x56_S32x56
def sqH (s : FVec F S32x4x56 .f32) : FVec F S32x56 .f32 := shapeCast S32x56 (extractStridedSlice S32x1x56 ![0, 1, 0] s slices_S32x4x56_o0_1_0_S32x1x56) shapeCasts_S32x1x56_S32x56
def linW (s : FVec F S32x4x56 .f32) : FVec F S32x56 .f32 := shapeCast S32x56 (extractStridedSlice S32x1x56 ![0, 2, 0] s slices_S32x4x56_o0_2_0_S32x1x56) shapeCasts_S32x1x56_S32x56
def sqW (s : FVec F S32x4x56 .f32) : FVec F S32x56 .f32 := shapeCast S32x56 (extractStridedSlice S32x1x56 ![0, 3, 0] s slices_S32x4x56_o0_3_0_S32x1x56) shapeCasts_S32x1x56_S32x56

/-- The loss that the last point stores. -/
def loss (s : FVec F S32x4x56 .f32) : FVec F S1x1 .f32 :=
  addf (divf (shapeCast S1x1 (multiReduction .add [1] S1
      (matmul dot_S1x32_S32x56_S1x56_1_0_0_1_n_n (some .fp32) (broadcast S1x32 (Scalar.ofBits .f32 0x3F800000#32))
        (addf (branch (sqH s) (linH s)) (branch (sqW s) (linW s))) (constant S1x56 .f32 0x00000000#32))
      0x00000000#32 reduces_S1x56_S1 (.inl rfl) rfl) shapeCasts_S1_S1x1) (broadcast S1x1 (Scalar.ofBits .f32 0x43000000#32)))
    (broadcast S1x1 (Named.named κ "l_eps" 0x386AE18B#32))

/-- What the last point does besides. -/
def last {α : Type} (k : Prog (TpuEff nD τ sig (Elt F) Λ₀ .tc) α) : Prog (TpuEff nD τ sig (Elt F) Λ₀ .tc) α :=
  Prog.op (.load arg7 (Rect.unit (s := S32x4x56) ![0, 0, 0] S32x4x56.size inb_S32x4x56_S32x4x56_0_0_0).toLoadRect (View.loadsAt_vmem h_S32x4x56)) fun (s : Vec F S32x4x56 .f32) =>
  Prog.op (.load arg2 (Rect.unit (s := S1x1) ![0, 0] S1x1.size inb_S1x1_S1x1_0_0).toLoadRect (View.loadsAt_vmem h_S1x1)) fun (_ : Vec F S1x1 .f32) =>
  Prog.op (.store arg2 (Rect.unit (s := S1x1) ![0, 0] S1x1.size inb_S1x1_S1x1_0_0) (loss s) Finset.univ (View.stores_vmem_bits_univ h_S1x1 rfl) (.inl rfl)) fun _ => k

/-- The whole body at a point. -/
def body (i : grid0.Coords) : Prog (TpuEff nD τ sig (Elt F) Λ₀ .tc) PUnit :=
  element arg1 arg3 arg4 arg5 arg6 arg7 i 0 (element arg1 arg3 arg4 arg5 arg6 arg7 i 1
    (if k0_cond1 i = 1#1 then last arg2 arg7 (.ret ⟨⟩) else .ret ⟨⟩))

/-- Steps are equal where what follows them is. -/
theorem step_congr (ts hi : ℕ) (hts : ts < 2) (hhi : hi < 56) {α : Type} {k k' : Prog (TpuEff nD τ sig (Elt F) Λ₀ .tc) α} (h : k = k') :
    step arg1 arg3 arg4 arg5 arg6 ts hi hts hhi k = step arg1 arg3 arg4 arg5 arg6 ts hi hts hhi k' := congrArg _ h
theorem step0_congr (ts : ℕ) (hts : ts < 2) {α : Type} {k k' : Prog (TpuEff nD τ sig (Elt F) Λ₀ .tc) α} (h : k = k') :
    step0 arg1 arg3 arg4 arg5 arg6 ts hts k = step0 arg1 arg3 arg4 arg5 arg6 ts hts k' := congrArg _ h
theorem stats_congr (i : grid0.Coords) (r : Fin 2) {α : Type} {k k' : Prog (TpuEff nD τ sig (Elt F) Λ₀ .tc) α} (h : k = k') :
    stats arg3 arg4 arg5 arg6 arg7 i r k = stats arg3 arg4 arg5 arg6 arg7 i r k' := congrArg _ h

end

end Cert.KernelIdeal.Body

end
-- ==== Proof.Body.Printed.lean ====
/-
  The kernel's body as the program of named pieces of `Step`.
-/
module

public import proofs.«01_k».proof.Proof.Body.Step

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body is the two elements' steps and sums, and at the last point the loss. -/
theorem body_eq (i : grid0.Coords) (arg1 : Memref sig .tc .vmem S2x56x56x512 .f32) (harg1 : arg1.IsWhole) (arg2 : Memref sig .tc .vmem S1x1 .f32) (harg2 : arg2.IsWhole) (arg3 : Memref sig .tc .vmem S56x128 .f32) (harg3 : arg3.IsWhole) (arg4 : Memref sig .tc .vmem S56x128 .f32) (harg4 : arg4.IsWhole) (arg5 : Memref sig .tc .vmem S56x128 .f32) (harg5 : arg5.IsWhole) (arg6 : Memref sig .tc .vmem S56x128 .f32) (harg6 : arg6.IsWhole) (arg7 : Memref sig .tc .vmem S32x4x56 .f32) (harg7 : arg7.IsWhole) :
   cc0_locality_loss_fused (F := F) i arg1 harg1 arg2 harg2 arg3 harg3 arg4 harg4 arg5 harg5 arg6 harg6 arg7 harg7 = body arg1 arg3 arg4 arg5 arg6 arg2 arg7 i := by
  refine step0_congr arg1 arg3 arg4 arg5 arg6 0 (by decide) ?_
  iterate 55 refine step_congr arg1 arg3 arg4 arg5 arg6 0 _ (by decide) _ ?_
  refine stats_congr arg3 arg4 arg5 arg6 arg7 i 0 ?_
  refine step0_congr arg1 arg3 arg4 arg5 arg6 1 (by decide) ?_
  iterate 55 refine step_congr arg1 arg3 arg4 arg5 arg6 1 _ (by decide) _ ?_
  refine stats_congr arg3 arg4 arg5 arg6 arg7 i 1 ?_
  show _ = @ite _ (k0_cond1 i = 1#1) (instDecidableEqBitVec (k0_cond1 i) 1#1) _ _
  generalize instDecidableEqBitVec (k0_cond1 i) 1#1 = d
  cases d with
  | isFalse _ => rfl
  | isTrue _ => rfl

end Cert.KernelIdeal.Body

end
-- ==== Proof.Body.Spec.lean ====
/-
  What the pieces of the kernel's body leave in its buffers.
-/
module

public import proofs.«01_k».proof.Proof.Body.Step

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem row0_lt : (0 : ℕ) < 56 := by decide

/-- The row of a block at a place: 56 places of 512 channels. -/
def slab (x : Vec F S2x56x56x512 .f32) (ts hi : ℕ) (hts : ts < 2) (hhi : hi < 56) : Vec F S1x1x56x512 .f32 :=
  VecWindow.window x ![ts, hi, 0, 0] S1x1x56x512.size (inbSlab hts hhi)

section
variable (g : Vec F S1x1x56x512 .f32 → FVec F S56x128 .f32) (x : Vec F S2x56x56x512 .f32) (ts : ℕ) (hts : ts < 2)

/-- An accumulator after the `n` rows from row `hi` on. -/
def accFrom (a : Vec F S56x128 .f32) : (n hi : ℕ) → hi + n ≤ 56 → Vec F S56x128 .f32
  | 0, _, _ => a
  | n + 1, hi, h => accFrom (same (addf a (g (slab x ts hi hts (by omega))))) n (hi + 1) (by omega)

/-- The array of row sums after the `n` rows from row `hi` on. -/
def fillFrom (a : Vec F S56x128 .f32) : (n hi : ℕ) → hi + n ≤ 56 → Vec F S56x128 .f32
  | 0, _, _ => a
  | n + 1, hi, h => fillFrom (VecWindow.put a ![hi, 0] S1x128.size (rowSum (g (slab x ts hi hts (by omega))))) n (hi + 1) (by omega)

/-- An accumulator, and the array of row sums, after a batch element. -/
def accAll : Vec F S56x128 .f32 := accFrom g x ts hts (same (g (slab x ts 0 hts row0_lt))) 55 1 (by decide)
def fillAll (a : Vec F S56x128 .f32) : Vec F S56x128 .f32 :=
  fillFrom g x ts hts (VecWindow.put a ![0, 0] S1x128.size (rowSum (g (slab x ts 0 hts row0_lt)))) 55 1 (by decide)
end

/-- What a batch element of the block `x` stores. -/
def elem (x : Vec F S2x56x56x512 .f32) (r : Fin 2) (x5 x6 : Vec F S56x128 .f32) : Vec F S1x4x56 .f32 :=
  stat (fillAll fs x r.val r.isLt x5) (fillAll fq x r.val r.isLt x6) (accAll fs x r.val r.isLt) (accAll fq x r.val r.isLt)

section
variable (c : Dev nD) (arg1 : Memref sig .tc .vmem S2x56x56x512 .f32) (harg1 : arg1.IsWhole) (arg3 arg4 arg5 arg6 : Memref sig .tc .vmem S56x128 .f32)
    (harg3 : arg3.IsWhole) (harg4 : arg4.IsWhole) (harg5 : arg5.IsWhole) (harg6 : arg6.IsWhole)
    (arg2 : Memref sig .tc .vmem S1x1 .f32) (harg2 : arg2.IsWhole) (arg7 : Memref sig .tc .vmem S32x4x56 .f32) (harg7 : arg7.IsWhole)

include harg1 harg3 harg4 harg5 harg6

/-- A row's step adds its folded row and squares to the accumulators and puts their sums at its row. -/
theorem step_spec (ts hi : ℕ) (hts : ts < 2) (hhi : hi < 56) {α : Type} (k : Prog (TpuEff nD τ sig (Elt F) Λ₀ .tc) α)
    (x1 : Vec F S2x56x56x512 .f32) (x3 x4 x5 x6 : Vec F S56x128 .f32) (E : Set ℕ) (Q : α → sProp 𝕄) :
    iprop(owns (c : Thread nD τ) arg1 fullShare x1 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg1 fullShare x1 ∗ owns (c : Thread nD τ) arg3 fullShare (same (addf x3 (fs (slab x1 ts hi hts hhi))))
            ∗ owns (c : Thread nD τ) arg4 fullShare (same (addf x4 (fq (slab x1 ts hi hts hhi)))) ∗ owns (c : Thread nD τ) arg5 fullShare (VecWindow.put x5 ![hi, 0] S1x128.size (rowSum (fs (slab x1 ts hi hts hhi))))
            ∗ owns (c : Thread nD τ) arg6 fullShare (VecWindow.put x6 ![hi, 0] S1x128.size (rowSum (fq (slab x1 ts hi hts hhi)))))
          -∗ wp frame (wpE (defs₀ (F := F)) Variants.none c none) E k Q))
      ⊢ wp frame (wpE (defs₀ (F := F)) Variants.none c none) E (step arg1 arg3 arg4 arg5 arg6 ts hi hts hhi k) Q := by
  unfold step rows
  unfold owns
  iintro ⟨⟨%f1, %hf1, H1⟩, ⟨%f3, %hf3, H3⟩, ⟨%f4, %hf4, H4⟩, ⟨%f5, %hf5, H5⟩, ⟨%f6, %hf6, H6⟩, Hk⟩
  subst hf1 hf3 hf4 hf5 hf6
  sl_exec
  iapply Hk
  isplitl [H1]
  · iexists _; isplitr; swap; · iexact H1
    ipureintro; rfl
  isplitl [H3]
  · iexists _; isplitr; swap; · iexact H3
    ipureintro; rw [View.read_writes_full, View.readAt_full, View.readAt_unit _ _ _ rfl (inbSlab hts hhi)]; rfl
  isplitl [H4]
  · iexists _; isplitr; swap; · iexact H4
    ipureintro; rw [View.read_writes_full, View.readAt_full, View.readAt_unit _ _ _ rfl (inbSlab hts hhi)]; rfl
  isplitl [H5]
  · iexists _; isplitr; swap; · iexact H5
    ipureintro; rw [View.read_writes_cons_put _ _ _ _ _ rfl, View.readAt_unit _ _ _ rfl (inbSlab hts hhi)]; rfl
  iexists _; isplitr; swap; · iexact H6
  ipureintro; rw [View.read_writes_cons_put _ _ _ _ _ rfl, View.readAt_unit _ _ _ rfl (inbSlab hts hhi)]; rfl

/-- The first row's step sets the accumulators. -/
theorem step0_spec (ts : ℕ) (hts : ts < 2) {α : Type} (k : Prog (TpuEff nD τ sig (Elt F) Λ₀ .tc) α)
    (x1 : Vec F S2x56x56x512 .f32) (x3 x4 x5 x6 : Vec F S56x128 .f32) (E : Set ℕ) (Q : α → sProp 𝕄) :
    iprop(owns (c : Thread nD τ) arg1 fullShare x1 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg1 fullShare x1 ∗ owns (c : Thread nD τ) arg3 fullShare (same (fs (slab x1 ts 0 hts row0_lt)))
            ∗ owns (c : Thread nD τ) arg4 fullShare (same (fq (slab x1 ts 0 hts row0_lt))) ∗ owns (c : Thread nD τ) arg5 fullShare (VecWindow.put x5 ![0, 0] S1x128.size (rowSum (fs (slab x1 ts 0 hts row0_lt))))
            ∗ owns (c : Thread nD τ) arg6 fullShare (VecWindow.put x6 ![0, 0] S1x128.size (rowSum (fq (slab x1 ts 0 hts row0_lt)))))
          -∗ wp frame (wpE (defs₀ (F := F)) Variants.none c none) E k Q))
      ⊢ wp frame (wpE (defs₀ (F := F)) Variants.none c none) E (step0 arg1 arg3 arg4 arg5 arg6 ts hts k) Q := by
  unfold step0 rows
  unfold owns
  iintro ⟨⟨%f1, %hf1, H1⟩, ⟨%f3, %hf3, H3⟩, ⟨%f4, %hf4, H4⟩, ⟨%f5, %hf5, H5⟩, ⟨%f6, %hf6, H6⟩, Hk⟩
  subst hf1 hf3 hf4 hf5 hf6
  sl_exec
  iapply Hk
  isplitl [H1]
  · iexists _; isplitr; swap; · iexact H1
    ipureintro; rfl
  isplitl [H3]
  · iexists _; isplitr; swap; · iexact H3
    ipureintro; rw [View.read_writes_full, View.readAt_unit _ _ _ rfl (inbSlab hts row0_lt)]; rfl
  isplitl [H4]
  · iexists _; isplitr; swap; · iexact H4
    ipureintro; rw [View.read_writes_full, View.readAt_unit _ _ _ rfl (inbSlab hts row0_lt)]; rfl
  isplitl [H5]
  · iexists _; isplitr; swap; · iexact H5
    ipureintro; rw [View.read_writes_cons_put _ _ _ _ _ rfl, View.readAt_unit _ _ _ rfl (inbSlab hts row0_lt)]; rfl
  iexists _; isplitr; swap; · iexact H6
  ipureintro; rw [View.read_writes_cons_put _ _ _ _ _ rfl, View.readAt_unit _ _ _ rfl (inbSlab hts row0_lt)]; rfl

/-- The steps of the `n` rows from row `hi` on. -/
theorem steps_spec (ts : ℕ) (hts : ts < 2) (n hi : ℕ) (h : hi + n ≤ 56) {α : Type} (k : Prog (TpuEff nD τ sig (Elt F) Λ₀ .tc) α)
    (x1 : Vec F S2x56x56x512 .f32) (x3 x4 x5 x6 : Vec F S56x128 .f32) (E : Set ℕ) (Q : α → sProp 𝕄) :
    iprop(owns (c : Thread nD τ) arg1 fullShare x1 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg1 fullShare x1 ∗ owns (c : Thread nD τ) arg3 fullShare (accFrom fs x1 ts hts x3 n hi h)
            ∗ owns (c : Thread nD τ) arg4 fullShare (accFrom fq x1 ts hts x4 n hi h) ∗ owns (c : Thread nD τ) arg5 fullShare (fillFrom fs x1 ts hts x5 n hi h)
            ∗ owns (c : Thread nD τ) arg6 fullShare (fillFrom fq x1 ts hts x6 n hi h))
          -∗ wp frame (wpE (defs₀ (F := F)) Variants.none c none) E k Q))
      ⊢ wp frame (wpE (defs₀ (F := F)) Variants.none c none) E (steps arg1 arg3 arg4 arg5 arg6 ts hts k n hi h) Q := by
  induction n generalizing hi x3 x4 x5 x6 with
  | zero =>
    simp only [steps, accFrom, fillFrom]
    iintro ⟨H1, H3, H4, H5, H6, Hk⟩
    iapply Hk; iframe
  | succ n ih =>
    simp only [steps, accFrom, fillFrom]
    refine .trans ?_ (step_spec c arg1 harg1 arg3 arg4 arg5 arg6 harg3 harg4 harg5 harg6 ts hi hts (by omega) _ x1 x3 x4 x5 x6 E Q)
    iintro ⟨H1, H3, H4, H5, H6, Hk⟩
    iframe
    iintro ⟨H1, H3, H4, H5, H6⟩
    have h' : hi + 1 + n ≤ 56 := by omega
    iapply (ih (hi + 1) h')
    iframe

omit harg1
include harg7

/-- The sums of a batch element are put at its place of the array of sums. -/
theorem stats_spec (i : grid0.Coords) (r : Fin 2) {α : Type} (k : Prog (TpuEff nD τ sig (Elt F) Λ₀ .tc) α)
    (x3 x4 x5 x6 : Vec F S56x128 .f32) (x7 : Vec F S32x4x56 .f32) (E : Set ℕ) (Q : α → sProp 𝕄) :
    iprop(owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7)
        ∗ (iprop(owns (c : Thread nD τ) arg3 fullShare (x3) ∗ owns (c : Thread nD τ) arg4 fullShare (x4) ∗ owns (c : Thread nD τ) arg5 fullShare (x5) ∗ owns (c : Thread nD τ) arg6 fullShare (x6)
            ∗ owns (c : Thread nD τ) arg7 fullShare (VecWindow.put x7 (k0_off1 i (BitVec.ofNat 32 r.val)) S1x4x56.size (stat x5 x6 x3 x4)))
          -∗ wp frame (wpE (defs₀ (F := F)) Variants.none c none) E k Q))
      ⊢ wp frame (wpE (defs₀ (F := F)) Variants.none c none) E (stats arg3 arg4 arg5 arg6 arg7 i r k) Q := by
  unfold stats
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  iexists _; isplitr; swap; · iexact H7
  ipureintro; rw [View.read_writes_cons_put _ _ _ _ _ rfl, View.readAt_full, View.readAt_full, View.readAt_full, View.readAt_full]; rfl

include harg1

/-- A batch element's part of the body. -/
theorem element_spec (i : grid0.Coords) (r : Fin 2) {α : Type} (k : Prog (TpuEff nD τ sig (Elt F) Λ₀ .tc) α)
    (x1 : Vec F S2x56x56x512 .f32) (x3 x4 x5 x6 : Vec F S56x128 .f32) (x7 : Vec F S32x4x56 .f32) (E : Set ℕ) (Q : α → sProp 𝕄) :
    iprop(owns (c : Thread nD τ) arg1 fullShare (x1) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7)
        ∗ (iprop(owns (c : Thread nD τ) arg1 fullShare (x1) ∗ owns (c : Thread nD τ) arg3 fullShare (accAll fs x1 r.val r.isLt) ∗ owns (c : Thread nD τ) arg4 fullShare (accAll fq x1 r.val r.isLt)
            ∗ owns (c : Thread nD τ) arg5 fullShare (fillAll fs x1 r.val r.isLt x5) ∗ owns (c : Thread nD τ) arg6 fullShare (fillAll fq x1 r.val r.isLt x6)
            ∗ owns (c : Thread nD τ) arg7 fullShare (VecWindow.put x7 (k0_off1 i (BitVec.ofNat 32 r.val)) S1x4x56.size (elem x1 r x5 x6)))
          -∗ wp frame (wpE (defs₀ (F := F)) Variants.none c none) E k Q))
      ⊢ wp frame (wpE (defs₀ (F := F)) Variants.none c none) E (element arg1 arg3 arg4 arg5 arg6 arg7 i r k) Q := by
  unfold element elem accAll fillAll
  iintro ⟨H1, H3, H4, H5, H6, H7, Hk⟩
  iapply (step0_spec c arg1 harg1 arg3 arg4 arg5 arg6 harg3 harg4 harg5 harg6 r.val r.isLt)
  iframe
  iintro ⟨H1, H3, H4, H5, H6⟩
  iapply (steps_spec c arg1 harg1 arg3 arg4 arg5 arg6 harg3 harg4 harg5 harg6 r.val r.isLt)
  iframe
  iintro ⟨H1, H3, H4, H5, H6⟩
  iapply (stats_spec c arg3 arg4 arg5 arg6 harg3 harg4 harg5 harg6 arg7 harg7 i r)
  iframe
  iintro ⟨H3, H4, H5, H6, H7⟩
  iapply Hk
  iframe

omit harg1 harg3 harg4 harg5 harg6
include harg2

/-- The last point stores the loss of the array of sums. -/
theorem last_spec {α : Type} (k : Prog (TpuEff nD τ sig (Elt F) Λ₀ .tc) α)
    (x2 : Vec F S1x1 .f32) (x7 : Vec F S32x4x56 .f32) (E : Set ℕ) (Q : α → sProp 𝕄) :
    iprop(owns (c : Thread nD τ) arg2 fullShare (x2) ∗ owns (c : Thread nD τ) arg7 fullShare (x7)
        ∗ (iprop(owns (c : Thread nD τ) arg2 fullShare (loss x7) ∗ owns (c : Thread nD τ) arg7 fullShare (x7)) -∗ wp frame (wpE (defs₀ (F := F)) Variants.none c none) E k Q))
      ⊢ wp frame (wpE (defs₀ (F := F)) Variants.none c none) E (last arg2 arg7 k) Q := by
  unfold last
  unfold owns
  iintro ⟨⟨%f2, %hf2, H2⟩, ⟨%f7, %hf7, H7⟩, Hk⟩
  subst hf2 hf7
  sl_exec
  iapply Hk
  isplitl [H2]
  · iexists _; isplitr; swap; · iexact H2
    ipureintro; rw [View.read_writes_full, View.readAt_full]
  iexists _; isplitr; swap; · iexact H7
  ipureintro; rfl
end

end Cert.KernelIdeal.Body

end
-- ==== Proof.Body.Contents.lean ====
/-
  What the buffers hold: the array of row sums after a batch element, whatever it held before, and the array of
  the batch elements' sums after a point.
-/
module

public import proofs.«01_k».proof.Proof.Body.Spec
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.Sem

variable {F : FTy → Type} [FloatOps F] [Named F]

/-- A put of one row: the row where it lies, the array elsewhere. -/
theorem put_row (a : Vec F S56x128 .f32) (w : Vec F S1x128 .f32) (hi : ℕ) (l : Fin 56) (k : Fin 128) :
    VecWindow.put a ![hi, 0] S1x128.size w (ix2 l k) = if l.val = hi then w (ix2 0 k) else a (ix2 l k) := by
  unfold VecWindow.put
  by_cases h : l.val = hi
  · rw [if_pos h, dif_pos (by
      intro b; fin_cases b
      · show hi ≤ l.val ∧ l.val < hi + 1; omega
      · show 0 ≤ k.val ∧ k.val < 0 + 128; omega)]
    refine congrArg w (funext fun b => Fin.ext ?_)
    fin_cases b
    · show l.val - hi = 0; omega
    · show k.val - 0 = k.val; omega
  · rw [if_neg h, dif_neg]
    intro hb
    have := hb 0
    have h0 : hi ≤ l.val ∧ l.val < hi + 1 := this
    omega

/-- The sums of every row of a batch element, over the rows' places. -/
def rowTable (g : Vec F S1x1x56x512 .f32 → FVec F S56x128 .f32) (x : Vec F S2x56x56x512 .f32) (ts : ℕ) (hts : ts < 2) : Vec F S56x128 .f32 :=
  fun j => rowSum (g (slab x ts (j 0).val hts (j 0).isLt)) (ix2 0 (j 1))

/-- After the `n` rows from row `hi` on the array holds those rows' sums, and elsewhere what it held. -/
theorem fillFrom_apply (g : Vec F S1x1x56x512 .f32 → FVec F S56x128 .f32) (x : Vec F S2x56x56x512 .f32) (ts : ℕ) (hts : ts < 2)
    (n hi : ℕ) (h : hi + n ≤ 56) (a : Vec F S56x128 .f32) (l : Fin 56) (k : Fin 128) :
    fillFrom g x ts hts a n hi h (ix2 l k) = if hi ≤ l.val ∧ l.val < hi + n then rowTable g x ts hts (ix2 l k) else a (ix2 l k) := by
  induction n generalizing hi a with
  | zero => rw [if_neg (by omega)]; rfl
  | succ n ih =>
    show fillFrom g x ts hts _ n (hi + 1) _ (ix2 l k) = _
    rw [ih, put_row]
    by_cases h1 : l.val = hi
    · subst h1
      rw [if_neg (by omega), if_pos rfl, if_pos (by omega)]
      rfl
    · rw [if_neg h1]
      exact if_congr (by omega) rfl rfl

/-- After a whole batch element it holds every row's sums, whatever it held before. -/
theorem fillAll_eq (g : Vec F S1x1x56x512 .f32 → FVec F S56x128 .f32) (x : Vec F S2x56x56x512 .f32) (ts : ℕ) (hts : ts < 2) (a : Vec F S56x128 .f32) :
    fillAll g x ts hts a = rowTable g x ts hts := by
  funext j
  obtain ⟨l, k, rfl⟩ : ∃ (l : Fin 56) (k : Fin 128), j = ix2 l k := ⟨j 0, j 1, eq_ix2 j⟩
  unfold fillAll
  rw [fillFrom_apply, put_row]
  by_cases h : l.val = 0
  · rw [if_neg (by omega), if_pos h]
    obtain rfl : l = 0 := Fin.ext h
    rfl
  · rw [if_pos (by omega)]

/-- A batch element's four rows of sums. -/
def sums (x : Vec F S2x56x56x512 .f32) (r : Fin 2) : Vec F S1x4x56 .f32 :=
  stat (rowTable fs x r.val r.isLt) (rowTable fq x r.val r.isLt) (accAll fs x r.val r.isLt) (accAll fq x r.val r.isLt)

theorem elem_eq (x : Vec F S2x56x56x512 .f32) (r : Fin 2) (x5 x6 : Vec F S56x128 .f32) : elem x r x5 x6 = sums x r := by
  unfold elem sums; rw [fillAll_eq, fillAll_eq]

/-- Where point `t` puts its batch element `r`. -/
theorem off1_eq (t : Fin grid0.N) (r : Fin 2) : k0_off1 (grid0.coords t) (BitVec.ofNat 32 r.val) = ![2 * t.val + r.val, 0, 0] :=
  (by decide +kernel : ∀ (t : Fin grid0.N) (r : Fin 2), k0_off1 (grid0.coords t) (BitVec.ofNat 32 r.val) = ![2 * t.val + r.val, 0, 0]) t r

/-- A put of one batch element: its rows where it lies, the array elsewhere. -/
theorem put_elem (a : Vec F S32x4x56 .f32) (w : Vec F S1x4x56 .f32) (n : ℕ) (b : Fin 32) (q : Fin 4) (l : Fin 56) :
    VecWindow.put a ![n, 0, 0] S1x4x56.size w (ix3 b q l) = if b.val = n then w (ix3 0 q l) else a (ix3 b q l) := by
  unfold VecWindow.put
  by_cases h : b.val = n
  · rw [if_pos h, dif_pos (by
      intro c; fin_cases c
      · show n ≤ b.val ∧ b.val < n + 1; omega
      · show 0 ≤ q.val ∧ q.val < 0 + 4; omega
      · show 0 ≤ l.val ∧ l.val < 0 + 56; omega)]
    refine congrArg w (funext fun c => Fin.ext ?_)
    fin_cases c
    · show b.val - n = 0; omega
    · show q.val - 0 = q.val; omega
    · show l.val - 0 = l.val; omega
  · rw [if_neg h, dif_neg]
    intro hb
    have h0 : n ≤ b.val ∧ b.val < n + 1 := hb 0
    omega

/-- The sums of all batch elements, of the blocks `X`. -/
def table (X : Fin 16 → Vec F S2x56x56x512 .f32) : Vec F S32x4x56 .f32 :=
  fun j => sums (X ⟨(j 0).val / 2, by have : (j 0).val < 32 := (j 0).isLt; omega⟩) ⟨(j 0).val % 2, Nat.mod_lt _ (by decide)⟩ (ix3 0 (j 1) (j 2))

/-- The array holds the sums of the batch elements of the first `n` blocks. -/
def Holds (X : Fin 16 → Vec F S2x56x56x512 .f32) (n : ℕ) (a : Vec F S32x4x56 .f32) : Prop :=
  ∀ (b : Fin 32) (q : Fin 4) (l : Fin 56), b.val < 2 * n → a (ix3 b q l) = table X (ix3 b q l)

/-- A point's two puts extend what the array holds by its block. -/
theorem Holds.succ (X : Fin 16 → Vec F S2x56x56x512 .f32) (n : Fin 16) (a : Vec F S32x4x56 .f32) (h : Holds X n.val a) :
    Holds X (n.val + 1) (VecWindow.put (VecWindow.put a ![2 * n.val + 0, 0, 0] S1x4x56.size (sums (X n) 0)) ![2 * n.val + 1, 0, 0] S1x4x56.size (sums (X n) 1)) := by
  intro b q l hb
  rw [put_elem, put_elem]
  by_cases h1 : b.val = 2 * n.val + 1
  · rw [if_pos h1]
    have e : (⟨b.val / 2, by omega⟩ : Fin 16) = n := Fin.ext (by show b.val / 2 = n.val; omega)
    have e' : (⟨b.val % 2, Nat.mod_lt _ (by decide)⟩ : Fin 2) = 1 := Fin.ext (by show b.val % 2 = 1; omega)
    show _ = sums (X ⟨b.val / 2, _⟩) ⟨b.val % 2, _⟩ (ix3 0 q l)
    rw [e, e']
  · rw [if_neg h1]
    by_cases h0 : b.val = 2 * n.val + 0
    · rw [if_pos h0]
      have e : (⟨b.val / 2, by omega⟩ : Fin 16) = n := Fin.ext (by show b.val / 2 = n.val; omega)
      have e' : (⟨b.val % 2, Nat.mod_lt _ (by decide)⟩ : Fin 2) = 0 := Fin.ext (by show b.val % 2 = 0; omega)
      show _ = sums (X ⟨b.val / 2, _⟩) ⟨b.val % 2, _⟩ (ix3 0 q l)
      rw [e, e']
    · rw [if_neg h0]
      exact h b q l (by omega)

theorem Holds.zero (X : Fin 16 → Vec F S2x56x56x512 .f32) (a : Vec F S32x4x56 .f32) : Holds X 0 a := fun _ _ _ h => absurd h (by omega)

/-- After every point it holds all the sums. -/
theorem Holds.all (X : Fin 16 → Vec F S2x56x56x512 .f32) (a : Vec F S32x4x56 .f32) (h : Holds X 16 a) : a = table X := by
  funext j
  obtain ⟨b, q, l, rfl⟩ : ∃ (b : Fin 32) (q : Fin 4) (l : Fin 56), j = ix3 b q l := ⟨j 0, j 1, j 2, eq_ix3 j⟩
  exact h b q l (by omega)

end Cert.KernelIdeal.Body

end
-- ==== Proof.Body.Run.lean ====
/-
  The kernel's run: at every point the array of sums gains the point's two batch elements, and the last point stores the
  loss of all of them, which the run leaves in the result.
-/
module

public import proofs.«01_k».proof.Proof.Body.Printed
public import proofs.«01_k».proof.Proof.Body.Contents
public import Idealize.ShloMosaic.Lib.Pipeline.ValueKit.Geometry
public import Idealize.ShloMosaic.Lib.StableHlo.Run
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the transposed argument at each point. -/
def blocks (c : Dev nD) (t : Fin 16) : Vec F S2x56x56x512 .f32 := iblk m c 0 (t.cast N_0.symm)

/-- The loss. -/
def result (c : Dev nD) : FVec F S1x1 .f32 := loss (table (blocks m c))

/-- The condition of the last point. -/
theorem cond_iff (t : Fin cfg0.N) : k0_cond1 (grid0.coords t) = 1#1 ↔ t.val = 15 :=
  (by decide +kernel : ∀ t : Fin grid0.N, k0_cond1 (grid0.coords t) = 1#1 ↔ t.val = 15) t

/-- Before point `n` the first four scratch arrays hold anything, the last the sums of the points before. -/
def Inv (c : Dev nD) (n : ℕ) : sProp 𝕄 :=
  iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, ⌜Holds (blocks m c) n d⌝ ∗ owns (c : Thread nD τ) (Memref.whole cc0_scratch4) fullShare d)) ∗ (∃ r, prngReg c r))

/-- What the launch hands over, its scratch arrays as memrefs. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ (∃ r, prngReg c r)) := by
  unfold Pipeline.ΦA; rw [scopedRest0_eq]; simp only [owns_whole]

/-- The proof data: the block in place, the loss in the result's buffer where it is written back, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => result m c
  Φ t := Inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = result m c := by dsimp only [dats]
theorem before0 (c : Dev nD) (t : Fin cfg0.N) (d) : (dats m 0 c).before 0 t d = iblk m c 0 t :=
  before0_0_of m (dats m 0 c) (A_eq m c 0) (after0 m c) t d

/-- The body at a point, from the block and the invariant. -/
theorem body_spec (c : Dev nD) (t : Fin cfg0.N) (Q : PUnit → sProp 𝕄) (x2 : Vec F S1x1 .f32) :
    iprop(Inv m c t.val ∗ owns (c : Thread nD τ) (st0_0 t) fullShare (iblk m c 0 t) ∗ owns (c : Thread nD τ) (st0_1 t) fullShare x2
        ∗ (iprop(Inv m c (t.val + 1) ∗ owns (c : Thread nD τ) (st0_0 t) fullShare (iblk m c 0 t)
            ∗ owns (c : Thread nD τ) (st0_1 t) fullShare (if t.val = 15 then result m c else x2)) -∗ Q ⟨⟩))
      ⊢ wp frame (wpE (defs₀ (F := F)) Variants.none c none) Set.univ (bodyAt0 t) Q := by
  have hN : t.val < 16 := lt_of_lt_of_eq t.isLt (show cfg0.N = 16 from N_0)
  have hX : blocks m c ⟨t.val, hN⟩ = iblk m c 0 t := rfl
  unfold bodyAt0
  rw [body_eq]
  unfold Inv body
  iintro ⟨⟨⟨⟨%d3, H3⟩, ⟨%d4, H4⟩, ⟨%d5, H5⟩, ⟨%d6, H6⟩, ⟨%d7, %h7, H7⟩⟩, Hg⟩, H1, H2, Hk⟩
  iapply (element_spec c (st0_0 t) (hstage0_0 ((cfg0.slots t 0).cast nbuf0_0)) (Memref.whole cc0_scratch0) (Memref.whole cc0_scratch1) (Memref.whole cc0_scratch2) (Memref.whole cc0_scratch3)
    (Memref.isWhole_whole _) (Memref.isWhole_whole _) (Memref.isWhole_whole _) (Memref.isWhole_whole _) (Memref.whole cc0_scratch4) (Memref.isWhole_whole _) (grid0.coords t) 0)
  iframe
  iintro ⟨H1, H3, H4, H5, H6, H7⟩
  iapply (element_spec c (st0_0 t) (hstage0_0 ((cfg0.slots t 0).cast nbuf0_0)) (Memref.whole cc0_scratch0) (Memref.whole cc0_scratch1) (Memref.whole cc0_scratch2) (Memref.whole cc0_scratch3)
    (Memref.isWhole_whole _) (Memref.isWhole_whole _) (Memref.isWhole_whole _) (Memref.isWhole_whole _) (Memref.whole cc0_scratch4) (Memref.isWhole_whole _) (grid0.coords t) 1)
  iframe
  iintro ⟨H1, H3, H4, H5, H6, H7⟩
  have h8 := Holds.succ (blocks m c) ⟨t.val, hN⟩ d7 h7
  rw [hX] at h8
  rw [off1_eq t 0, off1_eq t 1, elem_eq, elem_eq]
  by_cases h : t.val = 15
  · rw [if_pos ((cond_iff t).mpr h), if_pos h]
    iapply (last_spec c (st0_1 t) (hstage0_1 ((cfg0.slots t 1).cast nbuf0_1)) (Memref.whole cc0_scratch4) (Memref.isWhole_whole _))
    iframe
    iintro ⟨H2, H7⟩
    rw [wp_ret]
    imodintro
    iapply Hk
    isplitr [H1 H2]
    · isplitr [Hg]
      · isplitl [H3]; · iexists _; iexact H3
        isplitl [H4]; · iexists _; iexact H4
        isplitl [H5]; · iexists _; iexact H5
        isplitl [H6]; · iexists _; iexact H6
        iexists _; isplitr; swap; · iexact H7
        ipureintro; exact h8
      iexact Hg
    isplitl [H1]; · iexact H1
    have e : loss (VecWindow.put (VecWindow.put d7 ![2 * t.val + (0 : Fin 2).val, 0, 0] S1x4x56.size (sums (iblk m c 0 t) 0)) ![2 * t.val + (1 : Fin 2).val, 0, 0]
        S1x4x56.size (sums (iblk m c 0 t) 1)) = result m c :=
      congrArg loss (Holds.all _ _ (by have h9 := h8; rw [show ((⟨t.val, hN⟩ : Fin 16).val + 1) = 16 from congrArg (· + 1) h] at h9; exact h9))
    rw [e]
    iexact H2
  · rw [if_neg (fun e => h ((cond_iff t).mp e)), if_neg h]
    rw [wp_ret]
    imodintro
    iapply Hk
    isplitr [H1 H2]
    · isplitr [Hg]
      · isplitl [H3]; · iexists _; iexact H3
        isplitl [H4]; · iexists _; iexact H4
        isplitl [H5]; · iexists _; iexact H5
        isplitl [H6]; · iexists _; iexact H6
        iexists _; isplitr; swap; · iexact H7
        ipureintro; exact h8
      iexact Hg
    isplitl [H1]; · iexact H1
    iexact H2

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

/-- The block is left in place; the result's buffer is left alone before the last point and holds the loss there. -/
theorem leaves0 (c : Dev nD) (t : Fin cfg0.N) : (dats m 0 c).leavesExact 0 t = owns (c : Thread nD τ) (st0_0 t) fullShare (iblk m c 0 t) := by
  unfold Dat.leavesExact
  rw [show cfg0.idle 0 (grid0.coords t) = false from rfl, after0]
theorem leaves1_last (c : Dev nD) (t : Fin cfg0.N) (h : t.val = 15) : (dats m 0 c).leavesExact 1 t = owns (c : Thread nD τ) (st0_1 t) fullShare (result m c) := by
  have e : cfg0.idle 1 (grid0.coords t) = false := by
    show (!(k0_cond1 (grid0.coords t) == 1#1)) = false
    rw [(cond_iff t).mpr h]; rfl
  unfold Dat.leavesExact
  rw [e, after1]
theorem leaves1 (c : Dev nD) (t : Fin cfg0.N) (h : ¬t.val = 15) :
    (dats m 0 c).leavesExact 1 t = iprop(∃ d, owns (c : Thread nD τ) (st0_1 t) fullShare ((dats m 0 c).before 1 t d)) := by
  have hN : t.val < 16 := lt_of_lt_of_eq t.isLt (show cfg0.N = 16 from N_0)
  have e : cfg0.idle 1 (grid0.coords t) = true := by
    show (!(k0_cond1 (grid0.coords t) == 1#1)) = true
    rw [beq_eq_false_iff_ne.mpr (fun e => h ((cond_iff t).mp e))]; rfl
  have e' : (cfg0.win 1).flush t = false := by
    rw [Bool.eq_false_iff]; intro hf; exact h (by have := (flush0_1 t).mp hf; omega)
  unfold Dat.leavesExact
  rw [e, e']

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0]
  rw [show (dats m 0 c).Φ t.succ = Inv m c (t.val + 1) from rfl, show (dats m 0 c).Φ t.castSucc = Inv m c t.val from rfl,
    show (dats m 0 c).owesAt () t.succ = (dats m 0 c).owesAt () t.castSucc from rfl, leaves0]
  iintro ⟨HI, Ho, ⟨%d0, H0⟩, ⟨%d1, H1⟩⟩
  iapply (body_spec m c t)
  iframe
  iintro ⟨HI, H0, H1⟩
  iframe
  by_cases h : t.val = 15
  · rw [if_pos h, leaves1_last m c t h]
    iexact H1
  · rw [if_neg h, leaves1 m c t h]
    iexists d1; iexact H1

/-- The body's obligation. -/
theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by unfold defs₀; rw [Defs.onTc_tc]
  rw [bigSep_W0, bigSep_W0, hrow]
  exact triple_restated (sound_body m c t) rfl .rfl fun _ => .rfl

set_option backward.isDefEq.respectTransparency.types false in
set_option maxHeartbeats 800000 in
/-- The run: the arrays as the proof data leave them, what the later host operations make of them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      show _ ⊢ Inv m c 0
      rw [scratch_eq]
      unfold Inv
      iintro ⟨⟨H3, H4, H5, H6, ⟨%d, H7⟩⟩, Hg⟩
      iframe
      iexists d
      isplitr; swap; · iexact H7
      ipureintro; exact Holds.zero _ _)
    (hout := fun c => by
      show Inv m c _ ⊢ _
      rw [scratch_eq]
      unfold Inv
      iintro ⟨⟨H3, H4, H5, H6, ⟨%d, %h, H7⟩⟩, Hg⟩
      iframe
      iexists d; iexact H7)

/-- The loss array after the run. -/
theorem arr_result (c : Dev nD) : (dats m 0 c).arrAt 1 cfg0.N = result m c := by
  refine (dats m 0 c).arrAt_eq_of_after_last 1 ⟨15, by rw [show cfg0.N = 16 from N_0]; decide⟩ (by decide +kernel) _ fun j => ?_
  rw [after1]
  rfl

/-- The result of the program: the loss, as a scalar. -/
theorem tail_result (c : Dev nD) : Pipeline.afterTail₀ cfgs (dats m) 0 (V0 m) [hostOps1] c main_v2
    = shapeCast S_ (result m c) shapeCasts_S1x1_S_ := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v1) = result m c :=
    (Pipeline.withArrays_arr spec0 (by decide) c (V0 m c) _ 1).trans (arr_result m c)
  rw [e]
  rfl

/-- The run's result and argument. -/
theorem value : θ_run defs (onTc (τ := τ) (main (F := F))) ⟨m, fun _ => 0, ρ⟩ (fun r => ∀ c : Dev nD,
      r.2.mem ((c.tc : Thread nD τ).loc main_v2) = shapeCast S_ (result m c) shapeCasts_S1x1_S_
      ∧ r.2.mem ((c.tc : Thread nD τ).loc main_arg0) = m ((c.tc : Thread nD τ).loc main_arg0)) :=
  (θ_run defs _ _).mono (fun _ h c => ⟨((h.1 c).2 main_v2 (Pipeline.mem_restRefs_of main_v2 (by decide) (by decide))).trans (tail_result m c),
    ((h.1 c).2 main_arg0 (Pipeline.mem_restRefs_of main_arg0 (by decide) (by decide))).trans (W_main_arg0 m (dats m) c)⟩) (run_main m ρ)

/-- The argument is unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (W_main_arg0 m (dats m) c), h.2⟩) (run_main m ρ)

end Cert.KernelIdeal.Body

end
-- ==== Proof.Body.Literal.lean ====
/-
  The kernel as printed is the idealized kernel with its named constant read as the literal.
-/
module

public import proofs.«01_k».proof.Proof.Body.Run
public import proofs.«01_k».proof.Proof.Gen.Kernel

@[expose] public section

set_option maxRecDepth 16384

noncomputable section

namespace Cert.KernelIdeal.Body

open Idealize.ShloMosaic Idealize.SL.Sem

/-- Every name read as the literal it stands at. -/
@[reducible] def literal (F : FTy → Type) [FloatOps F] : Named F := ⟨fun _ _ {φ} bits => Scalar.ofBits φ bits⟩

variable {F : FTy → Type} [FloatOps F]

/-- The two printed bodies agree but for the constant. -/
theorem printed_eq (i : grid0.Coords) (arg1 : Memref sig .tc .vmem S2x56x56x512 .f32) (harg1 : arg1.IsWhole) (arg2 : Memref sig .tc .vmem S1x1 .f32) (harg2 : arg2.IsWhole) (arg3 : Memref sig .tc .vmem S56x128 .f32) (harg3 : arg3.IsWhole) (arg4 : Memref sig .tc .vmem S56x128 .f32) (harg4 : arg4.IsWhole) (arg5 : Memref sig .tc .vmem S56x128 .f32) (harg5 : arg5.IsWhole) (arg6 : Memref sig .tc .vmem S56x128 .f32) (harg6 : arg6.IsWhole) (arg7 : Memref sig .tc .vmem S32x4x56 .f32) (harg7 : arg7.IsWhole) :
    Cert.Kernel.cc0_locality_loss_fused (F := F) i arg1 harg1 arg2 harg2 arg3 harg3 arg4 harg4 arg5 harg5 arg6 harg6 arg7 harg7
      = @Cert.KernelIdeal.cc0_locality_loss_fused F _ (literal F) _ i arg1 harg1 arg2 harg2 arg3 harg3 arg4 harg4 arg5 harg5 arg6 harg6 arg7 harg7 := rfl

/-- So do their body tables and their programs. -/
theorem defs₀_eq : Cert.Kernel.defs₀ (F := F) = @Cert.KernelIdeal.defs₀ F _ (literal F) _ := by
  unfold Cert.Kernel.defs₀ Cert.KernelIdeal.defs₀
  refine congrArg Defs.onTc (funext fun l => funext fun a => ?_)
  match l, a with
  | 0, (t, s) => exact printed_eq ..
theorem defs_eq : Cert.Kernel.defs (F := F) = @Cert.KernelIdeal.defs F _ (literal F) _ :=
  congrArg (Pipeline.defs Cert.KernelIdeal.pcfgs) defs₀_eq
theorem main_eq : Cert.Kernel.main (F := F) = Cert.KernelIdeal.main (F := F) := rfl

/-- The printed kernel runs, keeps its argument and leaves every counter at zero. -/
theorem frame_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)) ∧ r.2.sem = fun _ => 0) := by
  rw [defs_eq, main_eq]
  exact @frame F _ (literal F) m ρ

end Cert.KernelIdeal.Body

end
-- ==== Proof.Value.Spec.lean ====
/-
  What both programs compute, over the extended reals: the sums of a feature map along one axis, the norms of the
  part of it from each place on and up to each place, and their sum.
-/
module

public import Idealize.ShloMosaic.PureOps.Ideal

@[expose] public section

noncomputable section

namespace Cert.LocalityLoss

open Idealize.ShloMosaic
open scoped BigOperators

/-- The sum of a row's values from place `l` on, and up to place `l`. -/
def from_ (f : Fin 56 → EReal) (l : Fin 56) : EReal := ∑ k : Fin 56, if l ≤ k then f k else 0
def upTo (f : Fin 56 → EReal) (l : Fin 56) : EReal := ∑ k : Fin 56, if k ≤ l then f k else 0

/-- The norm of `n` values whose squares sum to `sq` and which sum to `lin`, each shifted by 10⁻⁶. -/
def norm (sq lin n : EReal) : EReal :=
  Ideal.sqrt (sq + Ideal.ofBits .f32 0x360637BD#32 * lin + Ideal.ofBits .f32 0x2B8CBCCC#32 * n)

/-- The norms of the two parts that place `l` bounds. -/
def sufNorm (sq lin : Fin 56 → EReal) (l : Fin 56) : EReal := norm (from_ sq l) (from_ lin l) (((28672 * (56 - (l.val : ℝ)) : ℝ)) : EReal)
def preNorm (sq lin : Fin 56 → EReal) (l : Fin 56) : EReal := norm (upTo sq l) (upTo lin l) (((28672 * ((l.val : ℝ) + 1) : ℝ)) : EReal)

/-- The sum of `p` of a map's values over the channels and the places of a row, and of a column. -/
def rowsOf (p : EReal → EReal) (A : Fin 32 → Fin 512 → Fin 56 → Fin 56 → EReal) (b : Fin 32) (h : Fin 56) : EReal := ∑ w : Fin 56, ∑ ch : Fin 512, p (A b ch h w)
def colsOf (p : EReal → EReal) (A : Fin 32 → Fin 512 → Fin 56 → Fin 56 → EReal) (b : Fin 32) (w : Fin 56) : EReal := ∑ h : Fin 56, ∑ ch : Fin 512, p (A b ch h w)

def same (x : EReal) : EReal := x
def square (x : EReal) : EReal := x * x

/-- The mean over the batch of the sum of a row's norms, each shifted by the constant nearest 10⁻⁶. -/
def mean (f : Fin 32 → Fin 56 → EReal) : EReal :=
  Ideal.div (∑ t : Fin 32, ∑ l : Fin 56, (f t l + ((8796093 / 8796093022208 : ℝ) : EReal))) ((32 : ℝ) : EReal)

end Cert.LocalityLoss

end
-- ==== Proof.Value.Table.lean ====
/-
  The kernel's table of sums over the extended reals: each entry is the sum of a row's, or a column's, values or
  squares over all channels.
-/
module

public import proofs.«01_k».proof.Proof.Body.Contents
public import proofs.«01_k».proof.Proof.Value.Spec
public import Idealize.ShloMosaic.Lib.Pointwise

@[expose] public section

set_option maxRecDepth 16384

noncomputable section

namespace Cert.LocalityLoss

open Cert.KernelIdeal Cert.KernelIdeal.Gen Cert.KernelIdeal.Body
open Idealize.ShloMosaic
open scoped BigOperators

/-- The sum over 512 channels, by the four slices of 128. -/
theorem channels (f : Fin 512 → EReal) :
    (∑ k : Fin 128, (f ⟨k.val, by omega⟩ + f ⟨128 + k.val, by omega⟩ + f ⟨256 + k.val, by omega⟩ + f ⟨384 + k.val, by omega⟩)) = ∑ ch : Fin 512, f ch := by
  have e : ∀ k : Fin 128, f ⟨k.val, by omega⟩ + f ⟨128 + k.val, by omega⟩ + f ⟨256 + k.val, by omega⟩ + f ⟨384 + k.val, by omega⟩
      = ∑ q : Fin 4, f ((finProdFinEquiv : Fin 4 × Fin 128 ≃ Fin 512) (q, k)) := by
    intro k
    rw [Fin.sum_univ_four]
    refine congrArg₂ (· + ·) (congrArg₂ (· + ·) (congrArg₂ (· + ·) ?_ ?_) ?_) ?_
    · exact congrArg f (Fin.ext (by show k.val = k.val + 128 * 0; omega))
    · exact congrArg f (Fin.ext (by show 128 + k.val = k.val + 128 * 1; omega))
    · exact congrArg f (Fin.ext (by show 256 + k.val = k.val + 128 * 2; omega))
    · exact congrArg f (Fin.ext (by show 384 + k.val = k.val + 128 * 3; omega))
  rw [Finset.sum_congr rfl fun k _ => e k, Finset.sum_comm, ← Fintype.sum_prod_type']
  exact Equiv.sum_comp (finProdFinEquiv : Fin 4 × Fin 128 ≃ Fin 512) f

/-- `g` folds the channels of `p` of a row: the four slices' elements summed. -/
def Folds (g : Vec Ideal S1x1x56x512 .f32 → FVec Ideal S56x128 .f32) (p : EReal → EReal) : Prop :=
  ∀ v w k, g v (ix2 w k) = p (v (ix4 0 0 w ⟨k.val, by omega⟩)) + p (v (ix4 0 0 w ⟨128 + k.val, by omega⟩))
    + p (v (ix4 0 0 w ⟨256 + k.val, by omega⟩)) + p (v (ix4 0 0 w ⟨384 + k.val, by omega⟩))

theorem folds_fs : Folds fs LocalityLoss.same := by
  intro v w k
  pointwise [fs, fold4, mat, LocalityLoss.same]
theorem folds_fq : Folds fq square := by
  intro v w k
  pointwise [fq, fold4, mat, square]

/-- A row of the block, at an index. -/
theorem slab_apply (x : Vec Ideal S2x56x56x512 .f32) (ts hi : ℕ) (hts : ts < 2) (hhi : hi < 56) (w : Fin 56) (ch : Fin 512) :
    slab x ts hi hts hhi (ix4 0 0 w ch) = x (ix4 ⟨ts, hts⟩ ⟨hi, hhi⟩ w ch) := by
  unfold slab VecWindow.window
  refine congrArg x (funext fun a => Fin.ext ?_)
  fin_cases a
  · rfl
  · rfl
  · show 0 + 1 * w.val = w.val; omega
  · show 0 + 1 * ch.val = ch.val; omega

theorem slab_congr (x : Vec Ideal S2x56x56x512 .f32) (ts : ℕ) (hts : ts < 2) {a b : ℕ} (ha : a < 56) (hb : b < 56) (e : a = b) :
    slab x ts a hts ha = slab x ts b hts hb := by subst e; rfl

theorem same_apply (v : FVec Ideal S56x128 .f32) (j : S56x128.Idx) : Body.same v j = v j := by
  pointwise [Body.same]

theorem rowSum_apply (v : FVec Ideal S56x128 .f32) (k : Fin 128) : rowSum v (ix2 0 k) = ∑ w : Fin 56, v (ix2 w k) := by
  pointwise [rowSum]

theorem laneSum_apply (v : FVec Ideal S56x128 .f32) (l : Fin 56) : laneSum v (ix2 0 l) = ∑ k : Fin 128, v (ix2 l k) := by
  pointwise [laneSum]

section
variable (g : Vec Ideal S1x1x56x512 .f32 → FVec Ideal S56x128 .f32) (p : EReal → EReal) (hg : Folds g p) (x : Vec Ideal S2x56x56x512 .f32) (ts : ℕ) (hts : ts < 2)
include hg

/-- A row's sum over channels. -/
theorem lane_fold (hi : ℕ) (hhi : hi < 56) (w : Fin 56) :
    (∑ k : Fin 128, g (slab x ts hi hts hhi) (ix2 w k) : EReal) = ∑ ch : Fin 512, p (x (ix4 ⟨ts, hts⟩ ⟨hi, hhi⟩ w ch)) := by
  rw [← channels fun ch => p (x (ix4 ⟨ts, hts⟩ ⟨hi, hhi⟩ w ch))]
  refine Finset.sum_congr rfl fun k _ => ?_
  rw [hg]
  simp only [slab_apply]

/-- The array of row sums gives the sums along the rows. -/
theorem rows_apply (h : Fin 56) : (laneSum (rowTable g x ts hts) (ix2 0 h) : EReal) = ∑ w : Fin 56, ∑ ch : Fin 512, p (x (ix4 ⟨ts, hts⟩ h w ch)) := by
  rw [laneSum_apply]
  refine (Finset.sum_congr rfl fun k _ => rowSum_apply _ k).trans ?_
  refine Finset.sum_comm.trans (Finset.sum_congr rfl fun w _ => ?_)
  exact lane_fold g p hg x ts hts h.val h.isLt w

omit hg in
/-- An accumulator after `n` rows from row `hi` on. -/
theorem accFrom_apply (n hi : ℕ) (h : hi + n ≤ 56) (a : Vec Ideal S56x128 .f32) (j : S56x128.Idx) :
    (accFrom g x ts hts a n hi h j : EReal) = a j + ∑ i : Fin n, (g (slab x ts (hi + i.val) hts (by omega)) j : EReal) := by
  induction n generalizing hi a with
  | zero => exact (add_zero _).symm
  | succ n ih =>
    refine (ih (hi + 1) (by omega) _).trans ?_
    rw [same_apply, Fin.sum_univ_succ]
    refine (add_assoc (G := EReal) _ _ _).trans ?_
    refine congrArg (fun z : EReal => (a j : EReal) + z) ?_
    refine congrArg₂ (fun y z : EReal => y + z) rfl (Finset.sum_congr rfl fun i _ => ?_)
    have e : hi + 1 + i.val = hi + i.succ.val := by rw [Fin.val_succ]; omega
    exact congrArg (fun s => (g s _ : EReal)) (slab_congr x ts hts _ _ e)

/-- The accumulators give the sums along the columns. -/
theorem cols_apply (w : Fin 56) : (laneSum (accAll g x ts hts) (ix2 0 w) : EReal) = ∑ h : Fin 56, ∑ ch : Fin 512, p (x (ix4 ⟨ts, hts⟩ h w ch)) := by
  rw [laneSum_apply]
  have e : ∀ k : Fin 128, (accAll g x ts hts (ix2 w k) : EReal) = ∑ h : Fin 56, (g (slab x ts h.val hts h.isLt) (ix2 w k) : EReal) := by
    intro k
    unfold accAll
    rw [accFrom_apply, same_apply, Fin.sum_univ_succ (n := 55)]
    refine congrArg₂ (fun y z : EReal => y + z) rfl (Finset.sum_congr rfl fun i _ => ?_)
    have e : 1 + i.val = i.succ.val := by rw [Fin.val_succ]; omega
    exact congrArg (fun s => (g s _ : EReal)) (slab_congr x ts hts _ _ e)
  refine (Finset.sum_congr rfl fun k _ => e k).trans ?_
  refine Finset.sum_comm.trans (Finset.sum_congr rfl fun h _ => ?_)
  exact lane_fold g p hg x ts hts h.val h.isLt w

end

/-- The four rows of a batch element's sums. -/
theorem sums_apply (x : Vec Ideal S2x56x56x512 .f32) (r : Fin 2) (l : Fin 56) :
    (sums x r (ix3 0 0 l) : EReal) = ∑ w : Fin 56, ∑ ch : Fin 512, LocalityLoss.same (x (ix4 r l w ch))
      ∧ (sums x r (ix3 0 1 l) : EReal) = ∑ w : Fin 56, ∑ ch : Fin 512, square (x (ix4 r l w ch))
      ∧ (sums x r (ix3 0 2 l) : EReal) = ∑ h : Fin 56, ∑ ch : Fin 512, LocalityLoss.same (x (ix4 r h l ch))
      ∧ (sums x r (ix3 0 3 l) : EReal) = ∑ h : Fin 56, ∑ ch : Fin 512, square (x (ix4 r h l ch)) := by
  refine ⟨?_, ?_, ?_, ?_⟩
  · rw [← rows_apply fs _ folds_fs x r.val r.isLt l]; pointwise [sums, stat]
  · rw [← rows_apply fq _ folds_fq x r.val r.isLt l]; pointwise [sums, stat]
  · rw [← cols_apply fs _ folds_fs x r.val r.isLt l]; pointwise [sums, stat]
  · rw [← cols_apply fq _ folds_fq x r.val r.isLt l]; pointwise [sums, stat]

end Cert.LocalityLoss

end
-- ==== Proof.Value.Consts.lean ====
/-
  The literals of the two programs as extended reals.
-/
module

public import proofs.«01_k».proof.KernelIdeal
public import Idealize.ShloMosaic.PureOps.Ideal
public import Idealize.ShloMosaic.PureOps.IdealRules
public import Idealize.ShloMosaic.Lib.IdealHost

@[expose] public section

noncomputable section

namespace Cert.LocalityLoss

open Idealize.ShloMosaic

theorem lit_56 : Ideal.ofBits .f32 0x42600000#32 = ((56 : ℝ) : EReal) := by
  simp [Ideal.ofBits, Ideal.ieee, -EReal.coe_mul]; norm_num
theorem lit_28672 : Ideal.ofBits .f32 0x46E00000#32 = ((28672 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
/-- The f32 nearest to 10⁻⁶. -/
theorem lit_eps : Ideal.ofBits .f32 0x358637BD#32 = ((8796093 / 8796093022208 : ℝ) : EReal) := by
  simp [Ideal.ofBits, Ideal.ieee, -EReal.coe_mul]; norm_num

/-- The named constant's value. -/
theorem l_eps_value : (Named.named Cert.KernelIdeal.κ "l_eps" 0x386AE18B#32 : Ideal .f32) = ((61572651 / 1099511627776 : ℝ) : EReal) :=
  IdealRules.named_const.ideal_named_scalar _ _ _ _ rfl

end Cert.LocalityLoss

end
-- ==== Proof.Value.Loss.lean ====
/-
  The kernel's loss over the extended reals, of the table of sums.
-/
module

public import proofs.«01_k».proof.Proof.Body.Step
public import proofs.«01_k».proof.Proof.Value.Spec
public import proofs.«01_k».proof.Proof.Value.Consts
public import Idealize.ShloMosaic.Lib.Pointwise

@[expose] public section

set_option maxRecDepth 16384

noncomputable section

namespace Cert.LocalityLoss

open Cert.KernelIdeal Cert.KernelIdeal.Gen Cert.KernelIdeal.Body
open Idealize.ShloMosaic
open scoped BigOperators

/-- The words of the masks and of the places, as integers. -/
theorem sge_word : ∀ k l : Fin 56, (BitVec.setWidth 32 (IntOp.cmpi CmpIPredicate.sge (BitVec.ofNat 32 k.val) (BitVec.ofNat 32 l.val))).toInt = if l ≤ k then 1 else 0 := by decide +kernel
theorem sle_word : ∀ k l : Fin 56, (BitVec.setWidth 32 (IntOp.cmpi CmpIPredicate.sle (BitVec.ofNat 32 k.val) (BitVec.ofNat 32 l.val))).toInt = if k ≤ l then 1 else 0 := by decide +kernel
theorem place_word : ∀ l : Fin 56, (BitVec.ofNat 32 l.val).toInt = (l.val : ℤ) := by decide +kernel

/-- The masks: 1 on and after, and on and before, the column's place. -/
theorem sufMask_apply (k l : Fin 56) : (sufMask (F := Ideal) (ix2 k l) : EReal) = if l ≤ k then 1 else 0 := by
  pointwise [sufMask]
  refine (Ideal.scalar_sitofp_def (φ := .f32) _).trans ?_
  rw [sge_word]
  split <;> simp
theorem preMask_apply (k l : Fin 56) : (preMask (F := Ideal) (ix2 k l) : EReal) = if k ≤ l then 1 else 0 := by
  pointwise [preMask]
  refine (Ideal.scalar_sitofp_def (φ := .f32) _).trans ?_
  rw [sle_word]
  split <;> simp

theorem place_apply (l : Fin 56) : (FloatOps.sitofp (F := Ideal) .f32 (BitVec.ofNat 32 l.val) : EReal) = ((l.val : ℝ) : EReal) := by
  refine (Ideal.scalar_sitofp_def (φ := .f32) _).trans ?_
  rw [place_word, Int.cast_natCast]

/-- The counts of elements from each place on, and up to each place. -/
theorem sufCount_apply (l : Fin 56) : (sufCount (F := Ideal) (ix2 0 l) : EReal) = ((28672 * (56 - (l.val : ℝ)) : ℝ) : EReal) := by
  pointwise [sufCount, place]
  rw [place_apply, lit_56, lit_28672, ← EReal.coe_sub, ← EReal.coe_mul, mul_comm]
theorem preCount_apply (l : Fin 56) : (preCount (F := Ideal) (ix2 0 l) : EReal) = ((28672 * ((l.val : ℝ) + 1) : ℝ) : EReal) := by
  pointwise [preCount, place]
  rw [place_apply, lit_28672, ← EReal.coe_one, ← EReal.coe_add, ← EReal.coe_mul, mul_comm]

theorem norms_apply (sq lin : FVec Ideal S32x56 .f32) (mask : FVec Ideal S56x56 .f32) (count : FVec Ideal S1x56 .f32) (t : Fin 32) (l : Fin 56) :
    (norms sq lin mask count (ix2 t l) : EReal)
      = norm (∑ k : Fin 56, (sq (ix2 t k) : EReal) * mask (ix2 k l)) (∑ k : Fin 56, (lin (ix2 t k) : EReal) * mask (ix2 k l)) (count (ix2 0 l)) := by
  pointwise [norms, norm]

/-- The norms along one axis, both directions'. -/
theorem branch_apply (sq lin : FVec Ideal S32x56 .f32) (t : Fin 32) (l : Fin 56) :
    (branch sq lin (ix2 t l) : EReal) = sufNorm (fun k => sq (ix2 t k)) (fun k => lin (ix2 t k)) l + preNorm (fun k => sq (ix2 t k)) (fun k => lin (ix2 t k)) l := by
  refine congrArg₂ (fun y z : EReal => y + z) ((norms_apply ..).trans ?_) ((norms_apply ..).trans ?_)
  · unfold sufNorm from_
    rw [sufCount_apply]
    simp only [sufMask_apply, mul_ite, mul_one, mul_zero]
  · unfold preNorm upTo
    rw [preCount_apply]
    simp only [preMask_apply, mul_ite, mul_one, mul_zero]

/-- The loss: the mean of all norms by 128, and the named constant. -/
theorem loss_apply (s : FVec Ideal S32x4x56 .f32) :
    (loss s (ix2 0 0) : EReal) = Ideal.div (∑ l : Fin 56, ∑ t : Fin 32,
        ((branch (sqH s) (linH s) (ix2 t l) : EReal) + branch (sqW s) (linW s) (ix2 t l))) ((128 : ℝ) : EReal)
      + ((61572651 / 1099511627776 : ℝ) : EReal) := by
  rw [← l_eps_value, ← lit_128]
  pointwise [loss]

theorem linH_apply (s : FVec Ideal S32x4x56 .f32) (t : Fin 32) (l : Fin 56) : linH s (ix2 t l) = s (ix3 t 0 l) := by pointwise [linH]
theorem sqH_apply (s : FVec Ideal S32x4x56 .f32) (t : Fin 32) (l : Fin 56) : sqH s (ix2 t l) = s (ix3 t 1 l) := by pointwise [sqH]
theorem linW_apply (s : FVec Ideal S32x4x56 .f32) (t : Fin 32) (l : Fin 56) : linW s (ix2 t l) = s (ix3 t 2 l) := by pointwise [linW]
theorem sqW_apply (s : FVec Ideal S32x4x56 .f32) (t : Fin 32) (l : Fin 56) : sqW s (ix2 t l) = s (ix3 t 3 l) := by pointwise [sqW]

end Cert.LocalityLoss

end
-- ==== Proof.Value.Result.lean ====
/-
  What the kernel computes, over the extended reals: the blocks of the transposed argument, the sums over each batch
  element's rows and columns, and the loss of them.
-/
module

public import proofs.«01_k».proof.Proof.Body.Run
public import proofs.«01_k».proof.Proof.Value.Table
public import proofs.«01_k».proof.Proof.Value.Loss

@[expose] public section

set_option maxRecDepth 16384

noncomputable section

namespace Cert.LocalityLoss

open Cert.KernelIdeal Cert.KernelIdeal.Gen Cert.KernelIdeal.Body
open Idealize.ShloMosaic Idealize.ShloMosaic.TcCoe Idealize.ShloMosaic.Tactic
open Idealize.SL Idealize.SL.Sem
open scoped BigOperators

variable (m : (ℓ : Loc nD τ sig) → Buf (Elt Ideal) ℓ) (c : Dev nD)

/-- The argument, over its coordinates. -/
def arg (b : Fin 32) (ch : Fin 512) (h w : Fin 56) : EReal := m ((c.tc : Thread nD τ).loc main_arg0) (ix4 b ch h w)

/-- The argument with its channels last. -/
theorem transposed_apply (b : Fin 32) (h w : Fin 56) (ch : Fin 512) :
    (V m c main_v0 (ix4 b h w ch) : EReal) = arg m c b ch h w := by
  have e : V m c main_v0 = transpose S32x56x56x512 [0, 2, 3, 1] (m ((c.tc : Thread nD τ).loc main_arg0)) transposes_S32x512x56x56_S32x56x56x512_0_2_3_1 := by
    simp only [V, V0, hostOps0, List.flatten_cons, List.flatten_nil, List.append_nil]
    after_results
  rw [e]
  pointwise [arg]

theorem index_eq : ∀ t : Fin grid0.N, win0_0.index t = ![t.val, 0, 0, 0] := by decide +kernel

/-- Block `t` holds the batch elements `2 t` and `2 t + 1`. -/
theorem blocks_apply (t : Fin 16) (r : Fin 2) (h w : Fin 56) (ch : Fin 512) :
    (blocks m c t (ix4 r h w ch) : EReal) = arg m c ⟨2 * t.val + r.val, by omega⟩ ch h w := by
  rw [← transposed_apply]
  unfold blocks
  blk_ext [iblk, index_eq]
  show t.val * 2 + r.val = 2 * t.val + r.val
  omega

/-- The table's four rows for a batch element: its rows' sums and square sums, then its columns'. -/
theorem table_apply (b : Fin 32) (l : Fin 56) :
    (table (blocks m c) (ix3 b 0 l) : EReal) = rowsOf LocalityLoss.same (arg m c) b l
      ∧ (table (blocks m c) (ix3 b 1 l) : EReal) = rowsOf square (arg m c) b l
      ∧ (table (blocks m c) (ix3 b 2 l) : EReal) = colsOf LocalityLoss.same (arg m c) b l
      ∧ (table (blocks m c) (ix3 b 3 l) : EReal) = colsOf square (arg m c) b l := by
  have hb : b.val / 2 < 16 := by omega
  have hr : b.val % 2 < 2 := Nat.mod_lt _ (by decide)
  have e : ∀ h w ch, (blocks m c ⟨b.val / 2, hb⟩ (ix4 ⟨b.val % 2, hr⟩ h w ch) : EReal) = arg m c b ch h w := by
    intro h w ch
    rw [blocks_apply]
    exact congrArg (fun b' => arg m c b' ch h w) (Fin.ext (Nat.div_add_mod b.val 2))
  have s := sums_apply (blocks m c ⟨b.val / 2, hb⟩) ⟨b.val % 2, hr⟩ l
  simp only [e] at s
  exact s

/-- The kernel's result, of the norms of the argument. -/
theorem result_apply :
    (result m c (ix2 0 0) : EReal) = Ideal.div (∑ l : Fin 56, ∑ t : Fin 32,
        ((sufNorm (rowsOf square (arg m c) t) (rowsOf LocalityLoss.same (arg m c) t) l + preNorm (rowsOf square (arg m c) t) (rowsOf LocalityLoss.same (arg m c) t) l)
          + (sufNorm (colsOf square (arg m c) t) (colsOf LocalityLoss.same (arg m c) t) l + preNorm (colsOf square (arg m c) t) (colsOf LocalityLoss.same (arg m c) t) l)))
        ((128 : ℝ) : EReal) + ((61572651 / 1099511627776 : ℝ) : EReal) := by
  have e0 := fun b k => (table_apply m c b k).1
  have e1 := fun b k => (table_apply m c b k).2.1
  have e2 := fun b k => (table_apply m c b k).2.2.1
  have e3 := fun b k => (table_apply m c b k).2.2.2
  unfold result
  rw [loss_apply]
  simp only [branch_apply, linH_apply, sqH_apply, linW_apply, sqW_apply, e0, e1, e2, e3]

end Cert.LocalityLoss

end
-- ==== Proof.Value.Running.lean ====
/-
  The reference's running sums, read at an index.
-/
module

public import proofs.«01_k».proof.Proof.Value.Spec
public import Idealize.ShloMosaic.Lib.Pointwise

@[expose] public section

set_option maxRecDepth 16384

noncomputable section

namespace Cert.LocalityLoss

open Idealize.ShloMosaic
open scoped BigOperators

/-- A fold that adds, as a sum. -/
theorem foldl_add {n : ℕ} (g : Fin n → EReal) (z : EReal) : (List.finRange n).foldl (fun r k => r + g k) z = z + ∑ k : Fin n, g k := by
  have h : ∀ (l : List (Fin n)) (z : EReal), l.foldl (fun r k => r + g k) z = z + (l.map g).sum := by
    intro l
    induction l with
    | nil => intro z; simp
    | cons a l ih => intro z; rw [List.foldl_cons, ih, List.map_cons, List.sum_cons, add_assoc]
  rw [h, ← List.ofFn_eq_map, List.sum_ofFn]

/-- A window of 56 places that ends at place `l`, padded by zeros, sums the row up to `l`. -/
theorem window_sum (f : Fin 56 → EReal) (l : Fin 56) :
    (∑ w : Fin 56, if h : 55 ≤ l.val + w.val ∧ l.val + w.val - 55 < 56 then f ⟨l.val + w.val - 55, h.2⟩ else 0) = upTo f l := by
  unfold upTo
  rw [← Finset.sum_filter]
  symm
  refine Finset.sum_of_injOn (fun k => if hk : k.val + 55 - l.val < 56 then ⟨k.val + 55 - l.val, hk⟩ else 0) ?_ ?_ ?_ ?_
  · intro a ha b hb e
    have ha' : a ≤ l := (Finset.mem_filter.mp ha).2
    have hb' : b ≤ l := (Finset.mem_filter.mp hb).2
    rw [Fin.le_def] at ha' hb'
    dsimp only at e
    rw [dif_pos (by omega), dif_pos (by omega)] at e
    have := congrArg Fin.val e
    dsimp only at this
    exact Fin.ext (by omega)
  · intro _ _; exact Finset.mem_coe.mpr (Finset.mem_univ _)
  · intro w _ hw
    refine dif_neg fun h => hw ?_
    refine ⟨⟨l.val + w.val - 55, h.2⟩, Finset.mem_coe.mpr (Finset.mem_filter.mpr ⟨Finset.mem_univ _, by rw [Fin.le_def]; dsimp only; omega⟩), ?_⟩
    dsimp only
    rw [dif_pos (by omega)]
    exact Fin.ext (by dsimp only; omega)
  · intro a ha
    have ha' : a ≤ l := (Finset.mem_filter.mp ha).2
    rw [Fin.le_def] at ha'
    rw [dif_pos (show a.val + 55 - l.val < 56 by omega), dif_pos (by dsimp only; omega)]
    congr 1
    exact Fin.ext (by dsimp only; omega)

/-- What the window at `(t, l)` reads at its position `i`: the row's element there, zero in the padding. -/
theorem padded_eq (x : FVec Ideal ⟨2, ![32, 56]⟩ .f32) (t : Fin 32) (l : Fin 56) (i : (⟨2, ![1, 56]⟩ : Shape).Idx)
    {inst : Decidable (∀ a : Fin 2, (![0, 55] : Fin 2 → ℕ) a ≤ ((ix2 t l : (⟨2, ![32, 56]⟩ : Shape).Idx) a).val * (![1, 1] : Fin 2 → ℕ) a + (i a).val
      ∧ ((ix2 t l : (⟨2, ![32, 56]⟩ : Shape).Idx) a).val * (![1, 1] : Fin 2 → ℕ) a + (i a).val - (![0, 55] : Fin 2 → ℕ) a < (⟨2, ![32, 56]⟩ : Shape).size a)} :
    (@dite EReal _ inst (fun hin => x (fun a => ⟨_, (hin a).2⟩)) (fun _ => 0))
      = if hw : 55 ≤ l.val + (i 1).val ∧ l.val + (i 1).val - 55 < 56 then x (ix2 t ⟨l.val + (i 1).val - 55, hw.2⟩) else 0 := by
  have h0 : (i 0).val < 1 := (i 0).isLt
  have h1 : (i 1).val < 56 := (i 1).isLt
  by_cases hw : 55 ≤ l.val + (i 1).val ∧ l.val + (i 1).val - 55 < 56
  · rw [dif_pos hw, dif_pos (by
      intro a; fin_cases a
      · show 0 ≤ t.val * 1 + (i 0).val ∧ t.val * 1 + (i 0).val - 0 < 32; omega
      · show 55 ≤ l.val * 1 + (i 1).val ∧ l.val * 1 + (i 1).val - 55 < 56; omega)]
    refine congrArg x (funext fun a => Fin.ext ?_)
    fin_cases a
    · show t.val * 1 + (i 0).val - 0 = t.val; omega
    · show l.val * 1 + (i 1).val - 55 = l.val + (i 1).val - 55; omega
  · rw [dif_neg hw, dif_neg]
    intro hin
    have h2 : 55 ≤ l.val * 1 + (i 1).val ∧ l.val * 1 + (i 1).val - 55 < 56 := hin 1
    omega

/-- The running sum along the second axis, at an index. -/
theorem running_apply (x : FVec Ideal ⟨2, ![32, 56]⟩ .f32) (init : FVec Ideal ⟨0, ![]⟩ .f32) (hinit : ∀ j, init j = (0 : EReal))
    (h : (⟨2, ![32, 56]⟩ : Shape).ReduceWindows ![1, 56] ![1, 1] ![0, 55] ![0, 0] ⟨2, ![32, 56]⟩) (hu : 0 < (⟨0, ![]⟩ : Shape).numel) (t : Fin 32) (l : Fin 56) :
    Host.reduceWindowAdd (F := Ideal) ![1, 56] ![1, 1] ![0, 55] ![0, 0] x init h hu (ix2 t l) = upTo (fun k => x (ix2 t k)) l := by
  rw [← window_sum]
  unfold Host.reduceWindowAdd
  rw [Ideal.hostReduceWindowAdd_def]
  unfold Ideal.hostReduceWindowAdd Host.reduceWindow
  dsimp only
  rw [hinit]
  refine (foldl_add _ _).trans ?_
  rw [zero_add]
  refine (Finset.sum_congr rfl fun k _ => padded_eq x t l _).trans ?_
  refine (Equiv.sum_comp ((⟨2, ![1, 56]⟩ : Shape).rowMajor.symm) fun i : (⟨2, ![1, 56]⟩ : Shape).Idx =>
    if hw : 55 ≤ l.val + (i 1).val ∧ l.val + (i 1).val - 55 < 56 then x (ix2 t ⟨l.val + (i 1).val - 55, hw.2⟩) else 0).trans ?_
  rw [sum_idx2, Fin.sum_univ_one]
  rfl

/-- The running sum of the row in reverse, in reverse, is the sum from each place on. -/
theorem upTo_rev (f : Fin 56 → EReal) (l : Fin 56) : upTo (fun k => f (Fin.rev k)) (Fin.rev l) = from_ f l := by
  unfold upTo from_
  rw [← Equiv.sum_comp Fin.revPerm (fun k => if l ≤ k then f k else 0)]
  refine Finset.sum_congr rfl fun k _ => ?_
  rw [Fin.revPerm_apply]
  exact if_congr (by rw [Fin.le_def, Fin.le_def, Fin.val_rev, Fin.val_rev]; omega) rfl rfl

end Cert.LocalityLoss

end
-- ==== Proof.Value.Reference.lean ====
/-
  What the reference computes, over the extended reals.
-/
module

public import proofs.«01_k».proof.Proof.Gen.ReferenceIdeal.Run
public import proofs.«01_k».proof.Proof.Value.Running
public import proofs.«01_k».proof.Proof.Value.Consts

@[expose] public section

set_option maxRecDepth 16384

noncomputable section

namespace Cert.LocalityLoss

open Cert.ReferenceIdeal Cert.ReferenceIdeal.Gen
open Idealize.ShloMosaic Idealize.ShloMosaic.TcCoe Idealize.SL.Sem
open scoped BigOperators

/-- The sums over channels and columns, and over channels and rows. -/
def sumH (x : FVec Ideal S32x512x56x56 .f32) : FVec Ideal S32x56 .f32 := Host.reduceAdd x (constant S_ .f32 0x00000000#32) reducesTo_S32x512x56x56_S32x56_d1_3 h_S_
def sumW (x : FVec Ideal S32x512x56x56 .f32) : FVec Ideal S32x56 .f32 := Host.reduceAdd x (constant S_ .f32 0x00000000#32) reducesTo_S32x512x56x56_S32x56_d1_2 h_S_

/-- The running sums up to each place, and from each place on. -/
def up (x : FVec Ideal S32x56 .f32) : FVec Ideal S32x56 .f32 :=
  Host.reduceWindowAdd ![1, 56] ![1, 1] ![0, 55] ![0, 0] x (broadcastInDim S_ ![] bcast_S_S_ (constant S_ .f32 0x00000000#32)) reduceWindows_S32x56_S32x56_w1s1p0_0_w56s1p55_0 h_S_
def down (x : FVec Ideal S32x56 .f32) : FVec Ideal S32x56 .f32 := Host.reverse [1] (up (Host.reverse [1] x))

/-- The counts from each place on, and up to each place. -/
def countDown : FVec Ideal S56 .f32 := sitofp .f32 (muli (broadcastInDim S56 ![] bcast_S_S56 (constantI S_ 32 28672#32)) (subi (broadcastInDim S56 ![] bcast_S_S56 (constantI S_ 32 56#32)) (iotaInDim S56 32 0)))
def countUp : FVec Ideal S56 .f32 := sitofp .f32 (muli (broadcastInDim S56 ![] bcast_S_S56 (constantI S_ 32 28672#32)) (addi (iotaInDim S56 32 0) (broadcastInDim S56 ![] bcast_S_S56 (constantI S_ 32 1#32))))

/-- The norms of sums of squares, sums and counts. -/
def normsOf (sq lin : FVec Ideal S32x56 .f32) (count : FVec Ideal S56 .f32) : FVec Ideal S32x56 .f32 :=
  Host.sqrt (addf (addf sq (mulf (broadcastInDim S32x56 ![] bcast_S_S32x56 (constant S_ .f32 0x360637BD#32)) lin))
    (broadcastInDim S32x56 ![0, 1] bcast_S1x56_S32x56_0_1 (broadcastInDim S1x56 ![1] bcast_S56_S1x56_1 (mulf (broadcastInDim S56 ![] bcast_S_S56 (constant S_ .f32 0x2B8CBCCC#32)) count))))

/-- The mean over the batch of the rows' sums of norms, each shifted. -/
def meanOf (v : FVec Ideal S32x56 .f32) : FVec Ideal S_ .f32 :=
  Host.divf (Host.reduceAdd (Host.reduceAdd (addf v (broadcastInDim S32x56 ![] bcast_S_S32x56 (constant S_ .f32 0x358637BD#32))) (constant S_ .f32 0x00000000#32) reducesTo_S32x56_S32_d1 h_S_)
    (constant S_ .f32 0x00000000#32) reducesTo_S32_S_d0 h_S_) (constant S_ .f32 0x42000000#32)

/-- The reference's result of its argument, by these pieces. -/
def lossOf (x : FVec Ideal S32x512x56x56 .f32) : FVec Ideal S_ .f32 :=
  Host.divf (addf (addf (addf (meanOf (normsOf (down (sumH (mulf x x))) (down (sumH x)) countDown)) (meanOf (normsOf (up (sumH (mulf x x))) (up (sumH x)) countUp)))
      (meanOf (normsOf (down (sumW (mulf x x))) (down (sumW x)) countDown))) (meanOf (normsOf (up (sumW (mulf x x))) (up (sumW x)) countUp)))
    (constant S_ .f32 0x40800000#32)

theorem result_eq (m : (ℓ : Loc nD τ sig) → Buf (Elt Ideal) ℓ) (c : Dev nD) : Value.res_main_v105 (F := Ideal) m c = lossOf (m ((c.tc : Thread nD τ).loc main_arg0)) := rfl

/-- Reduced over channels and columns, the sum at `(t, l)` runs over row `l` of batch element `t`. -/
theorem sumH_apply (x : FVec Ideal S32x512x56x56 .f32) (t : Fin 32) (l : Fin 56) : (sumH x (ix2 t l) : EReal) = ∑ w : Fin 56, ∑ ch : Fin 512, (x (ix4 t ch l w) : EReal) := by
  pointwise [sumH]
  refine (zero_add _).trans ?_
  refine (Finset.sum_filter_eq_sum_of_fiber _ (fun k : Fin 56 × Fin 512 => (ix4 t k.2 l k.1 : S32x512x56x56.Idx))
    (fun _ _ e => Prod.ext (congrFun e 3) (congrFun e 1)) (fun i => ⟨fun e => ⟨(i 3, i 1), ?_⟩, ?_⟩) x).trans (Fintype.sum_prod_type _)
  · refine (congrArg₂ (fun t' l' => (ix4 t' (i 1) l' (i 3) : S32x512x56x56.Idx)) (congrFun e 0) (congrFun e 1)).symm.trans (ix4_eta i)
  · rintro ⟨k, rfl⟩
    funext b
    match b with
    | ⟨0, _⟩ => rfl
    | ⟨1, _⟩ => rfl
/-- Reduced over channels and rows, the sum at `(t, l)` runs over column `l` of batch element `t`. -/
theorem sumW_apply (x : FVec Ideal S32x512x56x56 .f32) (t : Fin 32) (l : Fin 56) : (sumW x (ix2 t l) : EReal) = ∑ h : Fin 56, ∑ ch : Fin 512, (x (ix4 t ch h l) : EReal) := by
  pointwise [sumW]
  refine (zero_add _).trans ?_
  refine (Finset.sum_filter_eq_sum_of_fiber _ (fun k : Fin 56 × Fin 512 => (ix4 t k.2 k.1 l : S32x512x56x56.Idx))
    (fun _ _ e => Prod.ext (congrFun e 2) (congrFun e 1)) (fun i => ⟨fun e => ⟨(i 2, i 1), ?_⟩, ?_⟩) x).trans (Fintype.sum_prod_type _)
  · refine (congrArg₂ (fun t' l' => (ix4 t' (i 1) (i 2) l' : S32x512x56x56.Idx)) (congrFun e 0) (congrFun e 1)).symm.trans (ix4_eta i)
  · rintro ⟨k, rfl⟩
    funext b
    match b with
    | ⟨0, _⟩ => rfl
    | ⟨1, _⟩ => rfl

/-- A table reversed along its rows, at one place. -/
theorem reverse_apply (x : FVec Ideal S32x56 .f32) (t : Fin 32) (l : Fin 56) : Host.reverse [1] x (ix2 t l) = x (ix2 t (Fin.rev l)) := by
  refine congrArg x (funext fun b => ?_)
  match b with
  | ⟨0, _⟩ => rfl
  | ⟨1, _⟩ => rfl

/-- The running sum up to a place, and from a place on. -/
theorem up_apply (x : FVec Ideal S32x56 .f32) (t : Fin 32) (l : Fin 56) : (up x (ix2 t l) : EReal) = upTo (fun k => x (ix2 t k)) l := by
  refine running_apply x _ (fun j => ?_) _ _ t l
  pointwise []
theorem down_apply (x : FVec Ideal S32x56 .f32) (t : Fin 32) (l : Fin 56) : (down x (ix2 t l) : EReal) = from_ (fun k => x (ix2 t k)) l := by
  unfold down
  rw [reverse_apply, up_apply, ← upTo_rev]
  exact congrArg (fun f => upTo f (Fin.rev l)) (funext fun k => reverse_apply x t k)

theorem down_word : ∀ l : Fin 56, (28672#32 * (56#32 - BitVec.ofNat 32 l.val)).toInt = 28672 * (56 - (l.val : ℤ)) := by decide +kernel
theorem up_word : ∀ l : Fin 56, (28672#32 * (BitVec.ofNat 32 l.val + 1#32)).toInt = 28672 * ((l.val : ℤ) + 1) := by decide +kernel

theorem countDown_apply (l : Fin 56) : (countDown (ix1 l) : EReal) = ((28672 * (56 - (l.val : ℝ)) : ℝ) : EReal) := by
  pointwise [countDown]
  refine (Ideal.scalar_sitofp_def (φ := .f32) _).trans ?_
  refine (congrArg (fun z : ℤ => ((z : ℝ) : EReal)) (down_word l)).trans ?_
  push_cast
  rfl
theorem countUp_apply (l : Fin 56) : (countUp (ix1 l) : EReal) = ((28672 * ((l.val : ℝ) + 1) : ℝ) : EReal) := by
  pointwise [countUp]
  refine (Ideal.scalar_sitofp_def (φ := .f32) _).trans ?_
  refine (congrArg (fun z : ℤ => ((z : ℝ) : EReal)) (up_word l)).trans ?_
  push_cast
  rfl

theorem normsOf_apply (sq lin : FVec Ideal S32x56 .f32) (count : FVec Ideal S56 .f32) (t : Fin 32) (l : Fin 56) :
    (normsOf sq lin count (ix2 t l) : EReal) = norm (sq (ix2 t l)) (lin (ix2 t l)) (count (ix1 l)) := by
  pointwise [normsOf, norm]

theorem meanOf_apply (v : FVec Ideal S32x56 .f32) :
    (meanOf v ix0 : EReal) = Ideal.div (∑ t : Fin 32, ∑ l : Fin 56, ((v (ix2 t l) : EReal) + ((8796093 / 8796093022208 : ℝ) : EReal))) ((32 : ℝ) : EReal) := by
  rw [← lit_eps, ← lit_32]
  pointwise [meanOf]

/-- The reference's sums, of the argument over its coordinates. -/
theorem sumH_same (x : FVec Ideal S32x512x56x56 .f32) (t : Fin 32) : (fun k => (sumH x (ix2 t k) : EReal)) = rowsOf same (fun b ch h w => x (ix4 b ch h w)) t :=
  funext fun k => sumH_apply x t k
theorem sumH_square (x : FVec Ideal S32x512x56x56 .f32) (t : Fin 32) : (fun k => (sumH (mulf x x) (ix2 t k) : EReal)) = rowsOf square (fun b ch h w => x (ix4 b ch h w)) t :=
  funext fun k => sumH_apply (mulf x x) t k
theorem sumW_same (x : FVec Ideal S32x512x56x56 .f32) (t : Fin 32) : (fun k => (sumW x (ix2 t k) : EReal)) = colsOf same (fun b ch h w => x (ix4 b ch h w)) t :=
  funext fun k => sumW_apply x t k
theorem sumW_square (x : FVec Ideal S32x512x56x56 .f32) (t : Fin 32) : (fun k => (sumW (mulf x x) (ix2 t k) : EReal)) = colsOf square (fun b ch h w => x (ix4 b ch h w)) t :=
  funext fun k => sumW_apply (mulf x x) t k

/-- The norms of the two parts, of tables of sums. -/
theorem normsDown_apply (sq lin : FVec Ideal S32x56 .f32) (t : Fin 32) (l : Fin 56) :
    (normsOf (down sq) (down lin) countDown (ix2 t l) : EReal) = sufNorm (fun k => sq (ix2 t k)) (fun k => lin (ix2 t k)) l := by
  rw [normsOf_apply, down_apply, down_apply, countDown_apply]; rfl
theorem normsUp_apply (sq lin : FVec Ideal S32x56 .f32) (t : Fin 32) (l : Fin 56) :
    (normsOf (up sq) (up lin) countUp (ix2 t l) : EReal) = preNorm (fun k => sq (ix2 t k)) (fun k => lin (ix2 t k)) l := by
  rw [normsOf_apply, up_apply, up_apply, countUp_apply]; rfl

/-- The reference's result, of the norms of the argument. -/
theorem lossOf_apply (x : FVec Ideal S32x512x56x56 .f32) (A : Fin 32 → Fin 512 → Fin 56 → Fin 56 → EReal) (h : A = fun b ch h w => x (ix4 b ch h w)) :
    (lossOf x ix0 : EReal) = Ideal.div
      (mean (fun t => sufNorm (rowsOf square A t) (rowsOf same A t)) + mean (fun t => preNorm (rowsOf square A t) (rowsOf same A t))
        + mean (fun t => sufNorm (colsOf square A t) (colsOf same A t)) + mean (fun t => preNorm (colsOf square A t) (colsOf same A t))) ((4 : ℝ) : EReal) := by
  subst h
  rw [← lit_4]
  refine congrArg₂ Ideal.div (congrArg₂ (fun y z : EReal => y + z) (congrArg₂ (fun y z : EReal => y + z) (congrArg₂ (fun y z : EReal => y + z) ?_ ?_) ?_) ?_) rfl
  · refine (meanOf_apply _).trans ?_
    simp only [normsDown_apply, sumH_square]
    simp only [sumH_same, mean]
  · refine (meanOf_apply _).trans ?_
    simp only [normsUp_apply, sumH_square]
    simp only [sumH_same, mean]
  · refine (meanOf_apply _).trans ?_
    simp only [normsDown_apply, sumW_square]
    simp only [sumW_same, mean]
  · refine (meanOf_apply _).trans ?_
    simp only [normsUp_apply, sumW_square]
    simp only [sumW_same, mean]

end Cert.LocalityLoss

end
-- ==== Proof.Value.Equation.lean ====
/-
  The two forms of the loss agree: one division of everything's sum, and the mean of four means.
-/
module

public import proofs.«01_k».proof.Proof.Value.Spec
public import Idealize.ShloMosaic.Lib.Pointwise

@[expose] public section

noncomputable section

namespace Cert.LocalityLoss

open Idealize.ShloMosaic
open scoped BigOperators

/-- A mean, its shifts taken out. -/
theorem mean_eq (f : Fin 32 → Fin 56 → EReal) :
    mean f = (∑ t : Fin 32, ∑ l : Fin 56, f t l) * ((1 / 32 : ℝ) : EReal) + ((56 * (8796093 / 8796093022208) : ℝ) : EReal) := by
  unfold mean
  rw [Ideal.div_coe (by norm_num : (32 : ℝ) ≠ 0)]
  simp only [Finset.sum_add_distrib, Finset.sum_const, Finset.card_univ, Fintype.card_fin]
  rw [← EReal.coe_nsmul, ← EReal.coe_nsmul,
    EReal.right_distrib_of_nonneg_of_ne_top (EReal.coe_nonneg.2 (by norm_num)) (EReal.coe_ne_top _), ← EReal.coe_mul]
  congr 2
  norm_num

/-- The one division and the mean of the four means. -/
theorem loss_eq (f₁ f₂ f₃ f₄ : Fin 32 → Fin 56 → EReal) :
    Ideal.div (∑ l : Fin 56, ∑ t : Fin 32, ((f₁ t l + f₂ t l) + (f₃ t l + f₄ t l))) ((128 : ℝ) : EReal) + ((61572651 / 1099511627776 : ℝ) : EReal)
      = Ideal.div (mean f₁ + mean f₂ + mean f₃ + mean f₄) ((4 : ℝ) : EReal) := by
  have d : ∀ (r : ℝ) (_ : 0 ≤ r) (x y : EReal), (x + y) * (r : EReal) = x * r + y * r := fun r hr x y =>
    EReal.right_distrib_of_nonneg_of_ne_top (EReal.coe_nonneg.2 hr) (EReal.coe_ne_top _) x y
  have a : ∀ (x y : EReal) (r s : ℝ), (x + r) + (y + s) = x + y + ((r + s : ℝ) : EReal) := fun x y r s => by
    rw [EReal.coe_add, add_add_add_comm]
  rw [Ideal.div_coe (by norm_num : (128 : ℝ) ≠ 0), Ideal.div_coe (by norm_num : (4 : ℝ) ≠ 0), Finset.sum_comm]
  simp only [mean_eq, a, Finset.sum_add_distrib]
  rw [← d _ (by norm_num), ← d _ (by norm_num), ← d _ (by norm_num), d (1 / 4) (by norm_num), mul_assoc, ← EReal.coe_mul, ← EReal.coe_mul, ← add_assoc]
  congr 3 <;> norm_num

end Cert.LocalityLoss

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body.Literal
public import proofs.«01_k».proof.Proof.Value.Result
public import proofs.«01_k».proof.Proof.Value.Reference
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The constant's name stands for the value stated of it. -/
theorem preserves : Cert.preserves_Kernel_KernelIdeal := IdealRules.named_const.statement _ _ _ _ _ rfl

/-- The reference runs, keeps its argument and has no counter to leave above zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (Cert.ReferenceIdeal.Value.run m g)

/-- The kernel's loss of an argument is the reference's. -/
theorem result_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.res_main_v105 (F := Ideal) m' c = shapeCast Cert.KernelIdeal.S_ (Cert.KernelIdeal.Body.result m c) Cert.KernelIdeal.Facts₀.shapeCasts_S1x1_S_ := by
  rw [LocalityLoss.result_eq, h]
  funext j
  rw [← ix0_eta j]
  refine (LocalityLoss.lossOf_apply _ (LocalityLoss.arg m c) rfl).trans ((LocalityLoss.loss_eq _ _ _ _).symm.trans ((LocalityLoss.result_apply m c).symm.trans ?_))
  pointwise []

/-- From equal arguments both runs end with the same result and keep their arguments. -/
theorem algebraic : Cert.algebraic_KernelIdeal_ReferenceIdeal := fun m g m' g' _ h =>
  ⟨fun c => shapeCast Cert.KernelIdeal.S_ (Cert.KernelIdeal.Body.result m c) Cert.KernelIdeal.Facts₀.shapeCasts_S1x1_S_, Cert.KernelIdeal.Body.value m g,
    (θ_run _ _ _).mono (fun _ e c => ⟨(e c).1.trans (result_agrees m m' c (h c)), (e c).2⟩) (Cert.ReferenceIdeal.Value.run m' g')⟩

theorem claim : Cert.Claim := ⟨Cert.Kernel.Gen.facts, Cert.KernelIdeal.Gen.facts, Cert.ReferenceIdeal.Gen.facts,
  fun m g _ => Cert.KernelIdeal.Body.frame_printed m g, fun m g _ => Cert.KernelIdeal.Body.frame m g, fun m g _ => frame_reference m g, preserves, algebraic⟩

end Cert.Proof

end
